-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_weights [hPre_finite_weights : Cert.Pre_finite_weights.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_weights [hPre_finite_weights : Cert.Pre_finite_weights.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_weights [hKernel4Ideal : Cert.Kernel4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_weights m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_weights [hReference4Ideal : Cert.Reference4Ideal.Facts] [hPre_finite_weights : Cert.Pre_finite_weights.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_weights m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_weights [hKernel4Ideal : Cert.Kernel4Ideal.Facts] [hReference4Ideal : Cert.Reference4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_weights m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v192_0)) (v1 : (c : Dev Cert.Kernel4Ideal.nD) → Buf (Elt Ideal) ((c.tc : Thread Cert.Kernel4Ideal.nD Cert.Kernel4Ideal.τ).loc Cert.Kernel4Ideal.main_v192_1)) (v2 : (c : Dev Cert.Kernel4Ideal.nD) → Buf (Elt Ideal) ((c.tc : Thread Cert.Kernel4Ideal.nD Cert.Kernel4Ideal.τ).loc Cert.Kernel4Ideal.main_v192_2)) (v3 : (c : Dev Cert.Kernel4Ideal.nD) → Buf (Elt Ideal) ((c.tc : Thread Cert.Kernel4Ideal.nD Cert.Kernel4Ideal.τ).loc Cert.Kernel4Ideal.main_v192_3)) (v4 : (c : Dev Cert.Kernel4Ideal.nD) → Buf (Elt Ideal) ((c.tc : Thread Cert.Kernel4Ideal.nD Cert.Kernel4Ideal.τ).loc Cert.Kernel4Ideal.main_v192_4)) (v5 : (c : Dev Cert.Kernel4Ideal.nD) → Buf (Elt Ideal) ((c.tc : Thread Cert.Kernel4Ideal.nD Cert.Kernel4Ideal.τ).loc Cert.Kernel4Ideal.main_v192_5)) (v6 : (c : Dev Cert.Kernel4Ideal.nD) → Buf (Elt Ideal) ((c.tc : Thread Cert.Kernel4Ideal.nD Cert.Kernel4Ideal.τ).loc Cert.Kernel4Ideal.main_v192_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v192_0) = v0 c
          ∧ r.2.mem ((c.tc : Thread Cert.Kernel4Ideal.nD Cert.Kernel4Ideal.τ).loc Cert.Kernel4Ideal.main_v192_1) = v1 c
          ∧ r.2.mem ((c.tc : Thread Cert.Kernel4Ideal.nD Cert.Kernel4Ideal.τ).loc Cert.Kernel4Ideal.main_v192_2) = v2 c
          ∧ r.2.mem ((c.tc : Thread Cert.Kernel4Ideal.nD Cert.Kernel4Ideal.τ).loc Cert.Kernel4Ideal.main_v192_3) = v3 c
          ∧ r.2.mem ((c.tc : Thread Cert.Kernel4Ideal.nD Cert.Kernel4Ideal.τ).loc Cert.Kernel4Ideal.main_v192_4) = v4 c
          ∧ r.2.mem ((c.tc : Thread Cert.Kernel4Ideal.nD Cert.Kernel4Ideal.τ).loc Cert.Kernel4Ideal.main_v192_5) = v5 c
          ∧ r.2.mem ((c.tc : Thread Cert.Kernel4Ideal.nD Cert.Kernel4Ideal.τ).loc Cert.Kernel4Ideal.main_v192_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v151) = v0 c
          ∧ r.2.mem ((c.tc : Thread Cert.Reference4Ideal.nD Cert.Reference4Ideal.τ).loc Cert.Reference4Ideal.main_v153) = v1 c
          ∧ r.2.mem ((c.tc : Thread Cert.Reference4Ideal.nD Cert.Reference4Ideal.τ).loc Cert.Reference4Ideal.main_v155) = v2 c
          ∧ r.2.mem ((c.tc : Thread Cert.Reference4Ideal.nD Cert.Reference4Ideal.τ).loc Cert.Reference4Ideal.main_v160) = v3 c
          ∧ r.2.mem ((c.tc : Thread Cert.Reference4Ideal.nD Cert.Reference4Ideal.τ).loc Cert.Reference4Ideal.main_v163) = v4 c
          ∧ r.2.mem ((c.tc : Thread Cert.Reference4Ideal.nD Cert.Reference4Ideal.τ).loc Cert.Reference4Ideal.main_v164) = v5 c
          ∧ r.2.mem ((c.tc : Thread Cert.Reference4Ideal.nD Cert.Reference4Ideal.τ).loc Cert.Reference4Ideal.main_v165) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_weights : Cert.Pre_finite_weights.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_weights (hKernel4Ideal := hKernel4Ideal) (hPre_finite_weights := hPre_finite_weights)
    ∧ quiescent_Reference4Ideal (hReference4Ideal := hReference4Ideal)
    ∧ quiescent_Reference4Ideal_pre_finite_weights (hReference4Ideal := hReference4Ideal) (hPre_finite_weights := hPre_finite_weights)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_weights (hKernel4Ideal := hKernel4Ideal) (hReference4Ideal := hReference4Ideal) (hPre_finite_weights := hPre_finite_weights)
-- ==== Pre_finite_weights.lean ====
abbrev S8x2048x1024 : Shape := ⟨3, ![8, 2048, 1024]⟩
abbrev S8x2048 : Shape := ⟨2, ![8, 2048]⟩
abbrev S1024 : Shape := ⟨1, ![1024]⟩
abbrev S1024x2280 : Shape := ⟨2, ![1024, 2280]⟩
abbrev S4x128x96 : Shape := ⟨3, ![4, 128, 96]⟩
abbrev S128 : Shape := ⟨1, ![128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2280 : S_.BroadcastsInDim S1024x2280 (![] : Fin 0 → Fin S1024x2280.rank)
  reducesTo_S1024x2280_S_d0_1 : S1024x2280.ReducesTo [0, 1] S_

variable [Facts]

def fn {F : FTy → Type} [FloatOps F] (main_arg0 : FVec F S8x2048x1024 .f32) (main_arg1 : IVec S8x2048 32) (main_arg2 : FVec F S1024 .f32) (main_arg3 : FVec F S1024x2280 .f32) (main_arg4 : FVec F S4x128x96 .f32) (main_arg5 : FVec F S128 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2280 .f32 := Host.absf main_arg3
  let main_cst_0 : FVec F S_ .f32 := constant S_ .f32 0x7F800000#32
  let main_v5 : FVec F S1024x2280 .f32 := broadcastInDim S1024x2280 ![] bcast_S_S1024x2280 main_cst_0
  let main_v6 : IVec S1024x2280 1 := cmpf .olt main_v4 main_v5
  let main_c_1 : IVec S_ 1 := constantI S_ 1 1#1
  let main_v7 : IVec S_ 1 := (fun x v => Host.reduce IntOp.andi x v reducesTo_S1024x2280_S_d0_1 h_S_) main_v6 main_c_1
  let main_v8 : IVec S_ 1 := andi main_v3 main_v7
  main_v8
-- ==== Kernel.lean ====
abbrev S8x2048x512 : Shape := ⟨3, ![8, 2048, 512]⟩
abbrev S8x16x1x1024 : Shape := ⟨4, ![8, 16, 1, 1024]⟩
abbrev S4x8x2048x256 : Shape := ⟨4, ![4, 8, 2048, 256]⟩
abbrev S8x2048x128 : Shape := ⟨3, ![8, 2048, 128]⟩
abbrev S8x2048x256 : Shape := ⟨3, ![8, 2048, 256]⟩
abbrev S8x8x128x256 : Shape := ⟨4, ![8, 8, 128, 256]⟩
abbrev S4x128x128 : Shape := ⟨3, ![4, 128, 128]⟩
abbrev S4x128x512 : Shape := ⟨3, ![4, 128, 512]⟩
abbrev S4x1x1x1024 : Shape := ⟨4, ![4, 1, 1, 1024]⟩
abbrev S4x4x128x256 : Shape := ⟨4, ![4, 4, 128, 256]⟩
abbrev S4x2048x128 : Shape := ⟨3, ![4, 2048, 128]⟩
abbrev S4x2048x256 : Shape := ⟨3, ![4, 2048, 256]⟩
abbrev S4x8x128x256 : Shape := ⟨4, ![4, 8, 128, 256]⟩
abbrev S4x1024x128 : Shape := ⟨3, ![4, 1024, 128]⟩
abbrev S4x2048x512 : Shape := ⟨3, ![4, 2048, 512]⟩
abbrev S4x1x128 : Shape := ⟨3, ![4, 1, 128]⟩
abbrev S256x128 : Shape := ⟨2, ![256, 128]⟩
abbrev S128x128 : Shape := ⟨2, ![128, 128]⟩
abbrev S1x128x128 : Shape := ⟨3, ![1, 128, 128]⟩
abbrev S1x256x128 : Shape := ⟨3, ![1, 256, 128]⟩
abbrev S1x1024x128 : Shape := ⟨3, ![1, 1024, 128]⟩
abbrev S1024x128 : Shape := ⟨2, ![1024, 128]⟩
abbrev S256x1024 : Shape := ⟨2, ![256, 1024]⟩
abbrev S1x1x1x1024 : Shape := ⟨4, ![1, 1, 1, 1024]⟩
abbrev S1x1024 : Shape := ⟨2, ![1, 1024]⟩
abbrev S1x128 : Shape := ⟨2, ![1, 128]⟩
abbrev S8x128 : Shape := ⟨2, ![8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S4x1x128x256 : Shape := ⟨4, ![4, 1, 128, 256]⟩
abbrev S4x128x256 : Shape := ⟨3, ![4, 128, 256]⟩
abbrev S512x256 : Shape := ⟨2, ![512, 256]⟩
abbrev S8x512 : Shape := ⟨2, ![8, 512]⟩
abbrev S1x256x256 : Shape := ⟨3, ![1, 256, 256]⟩
abbrev S256x256 : Shape := ⟨2, ![256, 256]⟩
abbrev S256x512 : Shape := ⟨2, ![256, 512]⟩
abbrev S1x256x512 : Shape := ⟨3, ![1, 256, 512]⟩
abbrev S32x8x512 : Shape := ⟨3, ![32, 8, 512]⟩
abbrev S512 : Shape := ⟨1, ![512]⟩
abbrev S1x512 : Shape := ⟨2, ![1, 512]⟩
abbrev S1x128x512 : Shape := ⟨3, ![1, 128, 512]⟩
abbrev S128x512 : Shape := ⟨2, ![128, 512]⟩
abbrev S1x1x128x256 : Shape := ⟨4, ![1, 1, 128, 256]⟩
abbrev S128x256 : Shape := ⟨2, ![128, 256]⟩
abbrev S512x128 : Shape := ⟨2, ![512, 128]⟩

abbrev nBuf : Space → Nat
  | .hbm => 8
  | .vmem => 21
  | .smem => 0
  | _ => 0

abbrev bufTy : (tb : Table) → Fin (tcTables nBuf tb) → BufTy
  | .hbm, ⟨0, _⟩ => ⟨S8x2048x512, .bf16⟩
  | .hbm, ⟨1, _⟩ => ⟨S8x16x1x1024, .f32⟩
  | .hbm, ⟨2, _⟩ => ⟨S4x8x2048x256, .bf16⟩
  | .hbm, ⟨3, _⟩ => ⟨S8x2048x128, .bf16⟩
  | .hbm, ⟨4, _⟩ => ⟨S8x2048x256, .bf16⟩
  | .hbm, ⟨5, _⟩ => ⟨S8x8x128x256, .bf16⟩
  | .hbm, ⟨6, _⟩ => ⟨S4x128x128, .bf16⟩
  | .hbm, ⟨7, _⟩ => ⟨S8x2048x512, .bf16⟩
  | .local _ .vmem, ⟨0, _⟩ => ⟨S4x128x512, .bf16⟩
  | .local _ .vmem, ⟨1, _⟩ => ⟨S4x128x512, .bf16⟩
  | .local _ .vmem, ⟨2, _⟩ => ⟨S4x1x1x1024, .f32⟩
  | .local _ .vmem, ⟨3, _⟩ => ⟨S4x1x1x1024, .f32⟩
  | .local _ .vmem, ⟨4, _⟩ => ⟨S4x4x128x256, .bf16⟩
  | .local _ .vmem, ⟨5, _⟩ => ⟨S4x4x128x256, .bf16⟩
  | .local _ .vmem, ⟨6, _⟩ => ⟨S4x2048x128, .bf16⟩
  | .local _ .vmem, ⟨7, _⟩ => ⟨S4x2048x128, .bf16⟩
  | .local _ .vmem, ⟨8, _⟩ => ⟨S4x2048x256, .bf16⟩
  | .local _ .vmem, ⟨9, _⟩ => ⟨S4x2048x256, .bf16⟩
  | .local _ .vmem, ⟨10, _⟩ => ⟨S4x8x128x256, .bf16⟩
  | .local _ .vmem, ⟨11, _⟩ => ⟨S4x8x128x256, .bf16⟩
  | .local _ .vmem, ⟨12, _⟩ => ⟨S4x128x128, .bf16⟩
  | .local _ .vmem, ⟨13, _⟩ => ⟨S4x128x512, .bf16⟩
  | .local _ .vmem, ⟨14, _⟩ => ⟨S4x128x512, .bf16⟩
  | .local _ .vmem, ⟨15, _⟩ => ⟨S4x1024x128, .bf16⟩
  | .local _ .vmem, ⟨16, _⟩ => ⟨S4x2048x128, .f32⟩
  | .local _ .vmem, ⟨17, _⟩ => ⟨S4x2048x512, .f32⟩
  | .local _ .vmem, ⟨18, _⟩ => ⟨S4x128x512, .f32⟩
  | .local _ .vmem, ⟨19, _⟩ => ⟨S4x1x128, .f32⟩
  | .local _ .vmem, ⟨20, _⟩ => ⟨S4x1x128, .i32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_251 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v314 : BitVec 32 := Scalar.subi v20 c0_i32_251
  let c1_i32_252 : BitVec 32 := 1#32
  let v316 : BitVec 32 := Scalar.divsi v314 c1_i32_252
  let v317 : BitVec 32 := Scalar.muli v316 c1_i32_252
  let v318 : BitVec 32 := Scalar.addi c0_i32_251 v317
  let c1_i32_253 : BitVec 32 := 1#32
  ⟨c0_i32_251, v318, c1_i32_253⟩
def k0_mult1 (i : grid0.Coords) (k0_t1 : Fin (k0_t1_loop i).trips) : BitVec 32 :=
  let c0_i32_251 : BitVec 32 := 0#32
  let c1_i32_253 : BitVec 32 := 1#32
  let arg16 : BitVec 32 := Scf.iv c0_i32_251 c1_i32_253 k0_t1
  let c256_i32_476 : BitVec 32 := 256#32
  let v625 : BitVec 32 := Scalar.muli arg16 c256_i32_476
  v625
def k0_off1 (i : grid0.Coords) (k0_t1 : Fin (k0_t1_loop i).trips) : Fin 3 → Nat :=
  let c0_477 : Index := 0#32
  let c0_i32_251 : BitVec 32 := 0#32
  let c1_i32_253 : BitVec 32 := 1#32
  let arg16 : BitVec 32 := Scf.iv c0_i32_251 c1_i32_253 k0_t1
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off2 (i : grid0.Coords) (k0_t1 : Fin (k0_t1_loop i).trips) : Fin 3 → Nat :=
  let c1_491 : Index := 1#32
  let c0_i32_251 : BitVec 32 := 0#32
  let c1_i32_253 : BitVec 32 := 1#32
  let arg16 : BitVec 32 := Scf.iv c0_i32_251 c1_i32_253 k0_t1
  let c256_i32_476 : BitVec 32 := 256#32
  let v625 : BitVec 32 := Scalar.muli arg16 c256_i32_476
  let v626 : BitVec 32 := v625
  let v663 : Index := Scalar.indexCast v626
  let c0_492 : Index := 0#32
  ![1, v663.toNat, 0]
def k0_off3 (i : grid0.Coords) (k0_t1 : Fin (k0_t1_loop i).trips) : Fin 3 → Nat :=
  let c2_505 : Index := 2#32
  let c0_i32_251 : BitVec 32 := 0#32
  let c1_i32_253 : BitVec 32 := 1#32
  let arg16 : BitVec 32 := Scf.iv c0_i32_251 c1_i32_253 k0_t1
  let c256_i32_476 : BitVec 32 := 256#32
  let v625 : BitVec 32 := Scalar.muli arg16 c256_i32_476
  let v626 : BitVec 32 := v625
  let v699 : Index := Scalar.indexCast v626
  let c0_506 : Index := 0#32
  ![2, v699.toNat, 0]
def k0_off4 (i : grid0.Coords) (k0_t1 : Fin (k0_t1_loop i).trips) : Fin 3 → Nat :=
  let c3_519 : Index := 3#32
  let c0_i32_251 : BitVec 32 := 0#32
  let c1_i32_253 : BitVec 32 := 1#32
  let arg16 : BitVec 32 := Scf.iv c0_i32_251 c1_i32_253 k0_t1
  let c256_i32_476 : BitVec 32 := 256#32
  let v625 : BitVec 32 := Scalar.muli arg16 c256_i32_476
  let v626 : BitVec 32 := v625
  let v735 : Index := Scalar.indexCast v626
  let c0_520 : Index := 0#32
  ![3, v735.toNat, 0]
@[reducible] def k0_t2_loop (i : grid0.Coords) : Scf.Loop 32 :=
  let c0_i32_251 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v314 : BitVec 32 := Scalar.subi v20 c0_i32_251
  let c1_i32_252 : BitVec 32 := 1#32
  let v316 : BitVec 32 := Scalar.divsi v314 c1_i32_252
  let v317 : BitVec 32 := Scalar.muli v316 c1_i32_252
  let v318 : BitVec 32 := Scalar.addi c0_i32_251 v317
  let v315 : BitVec 32 := Scalar.addi c0_i32_251 v314
  let c1_i32_254 : BitVec 32 := 1#32
  ⟨v318, v315, c1_i32_254⟩
def k0_mult2 (i : grid0.Coords) (k0_t2 : Fin (k0_t2_loop i).trips) : BitVec 32 :=
  let c0_i32_251 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v314 : BitVec 32 := Scalar.subi v20 c0_i32_251
  let c1_i32_252 : BitVec 32 := 1#32
  let v316 : BitVec 32 := Scalar.divsi v314 c1_i32_252
  let v317 : BitVec 32 := Scalar.muli v316 c1_i32_252
  let v318 : BitVec 32 := Scalar.addi c0_i32_251 v317
  let c1_i32_254 : BitVec 32 := 1#32
  let arg16 : BitVec 32 := Scf.iv v318 c1_i32_254 k0_t2
  let c256_i32_476 : BitVec 32 := 256#32
  let v625 : BitVec 32 := Scalar.muli arg16 c256_i32_476
  v625
def k0_off5 (i : grid0.Coords) (k0_t2 : Fin (k0_t2_loop i).trips) : Fin 3 → Nat :=
  let c0_477 : Index := 0#32
  let c0_i32_251 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v314 : BitVec 32 := Scalar.subi v20 c0_i32_251
  let c1_i32_252 : BitVec 32 := 1#32
  let v316 : BitVec 32 := Scalar.divsi v314 c1_i32_252
  let v317 : BitVec 32 := Scalar.muli v316 c1_i32_252
  let v318 : BitVec 32 := Scalar.addi c0_i32_251 v317
  let c1_i32_254 : BitVec 32 := 1#32
  let arg16 : BitVec 32 := Scf.iv v318 c1_i32_254 k0_t2
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off6 (i : grid0.Coords) (k0_t2 : Fin (k0_t2_loop i).trips) : Fin 3 → Nat :=
  let c1_491 : Index := 1#32
  let c0_i32_251 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v314 : BitVec 32 := Scalar.subi v20 c0_i32_251
  let c1_i32_252 : BitVec 32 := 1#32
  let v316 : BitVec 32 := Scalar.divsi v314 c1_i32_252
  let v317 : BitVec 32 := Scalar.muli v316 c1_i32_252
  let v318 : BitVec 32 := Scalar.addi c0_i32_251 v317
  let c1_i32_254 : BitVec 32 := 1#32
  let arg16 : BitVec 32 := Scf.iv v318 c1_i32_254 k0_t2
  let c256_i32_476 : BitVec 32 := 256#32
  let v625 : BitVec 32 := Scalar.muli arg16 c256_i32_476
  let v626 : BitVec 32 := v625
  let v663 : Index := Scalar.indexCast v626
  let c0_492 : Index := 0#32
  ![1, v663.toNat, 0]
def k0_off7 (i : grid0.Coords) (k0_t2 : Fin (k0_t2_loop i).trips) : Fin 3 → Nat :=
  let c2_505 : Index := 2#32
  let c0_i32_251 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v314 : BitVec 32 := Scalar.subi v20 c0_i32_251
  let c1_i32_252 : BitVec 32 := 1#32
  let v316 : BitVec 32 := Scalar.divsi v314 c1_i32_252
  let v317 : BitVec 32 := Scalar.muli v316 c1_i32_252
  let v318 : BitVec 32 := Scalar.addi c0_i32_251 v317
  let c1_i32_254 : BitVec 32 := 1#32
  let arg16 : BitVec 32 := Scf.iv v318 c1_i32_254 k0_t2
  let c256_i32_476 : BitVec 32 := 256#32
  let v625 : BitVec 32 := Scalar.muli arg16 c256_i32_476
  let v626 : BitVec 32 := v625
  let v699 : Index := Scalar.indexCast v626
  let c0_506 : Index := 0#32
  ![2, v699.toNat, 0]
def k0_off8 (i : grid0.Coords) (k0_t2 : Fin (k0_t2_loop i).trips) : Fin 3 → Nat :=
  let c3_519 : Index := 3#32
  let c0_i32_251 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v314 : BitVec 32 := Scalar.subi v20 c0_i32_251
  let c1_i32_252 : BitVec 32 := 1#32
  let v316 : BitVec 32 := Scalar.divsi v314 c1_i32_252
  let v317 : BitVec 32 := Scalar.muli v316 c1_i32_252
  let v318 : BitVec 32 := Scalar.addi c0_i32_251 v317
  let c1_i32_254 : BitVec 32 := 1#32
  let arg16 : BitVec 32 := Scf.iv v318 c1_i32_254 k0_t2
  let c256_i32_476 : BitVec 32 := 256#32
  let v625 : BitVec 32 := Scalar.muli arg16 c256_i32_476
  let v626 : BitVec 32 := v625
  let v735 : Index := Scalar.indexCast v626
  let c0_520 : Index := 0#32
  ![3, v735.toNat, 0]
def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_255 : BitVec 32 := 1#32
  let v319 : BitVec 32 := Scalar.subi v20 c1_i32_255
  let c0_i32_256 : BitVec 32 := 0#32
  let v320 : BitVec 32 := Scalar.maxsi v319 c0_i32_256
  let c7_i32 : BitVec 32 := 7#32
  let v321 : BitVec 32 := Scalar.minsi v320 c7_i32
  let c0_i32_257 : BitVec 32 := 0#32
  let v322 : BitVec 1 := Scalar.cmpi .ne v321 c0_i32_257
  v322

def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_255 : BitVec 32 := 1#32
  let v319 : BitVec 32 := Scalar.subi v20 c1_i32_255
  let c0_i32_256 : BitVec 32 := 0#32
  let v320 : BitVec 32 := Scalar.maxsi v319 c0_i32_256
  let c7_i32 : BitVec 32 := 7#32
  let v321 : BitVec 32 := Scalar.minsi v320 c7_i32
  let c1_i32_476 : BitVec 32 := 1#32
  let v625 : BitVec 32 := Scalar.subi v321 c1_i32_476
  let c0_i32_477 : BitVec 32 := 0#32
  let v626 : BitVec 1 := Scalar.cmpi .ne v625 c0_i32_477
  v626

def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_255 : BitVec 32 := 1#32
  let v319 : BitVec 32 := Scalar.subi v20 c1_i32_255
  let c0_i32_256 : BitVec 32 := 0#32
  let v320 : BitVec 32 := Scalar.maxsi v319 c0_i32_256
  let c7_i32 : BitVec 32 := 7#32
  let v321 : BitVec 32 := Scalar.minsi v320 c7_i32
  let c1_i32_476 : BitVec 32 := 1#32
  let v625 : BitVec 32 := Scalar.subi v321 c1_i32_476
  let c1_i32_478 : BitVec 32 := 1#32
  let v628 : BitVec 32 := Scalar.subi v625 c1_i32_478
  let c0_i32_479 : BitVec 32 := 0#32
  let v629 : BitVec 1 := Scalar.cmpi .ne v628 c0_i32_479
  v629

def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_255 : BitVec 32 := 1#32
  let v319 : BitVec 32 := Scalar.subi v20 c1_i32_255
  let c0_i32_256 : BitVec 32 := 0#32
  let v320 : BitVec 32 := Scalar.maxsi v319 c0_i32_256
  let c7_i32 : BitVec 32 := 7#32
  let v321 : BitVec 32 := Scalar.minsi v320 c7_i32
  let c1_i32_476 : BitVec 32 := 1#32
  let v625 : BitVec 32 := Scalar.subi v321 c1_i32_476
  let c1_i32_478 : BitVec 32 := 1#32
  let v628 : BitVec 32 := Scalar.subi v625 c1_i32_478
  let c1_i32_480 : BitVec 32 := 1#32
  let v631 : BitVec 32 := Scalar.subi v628 c1_i32_480
  let c0_i32_481 : BitVec 32 := 0#32
  let v632 : BitVec 1 := Scalar.cmpi .ne v631 c0_i32_481
  v632

def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_255 : BitVec 32 := 1#32
  let v319 : BitVec 32 := Scalar.subi v20 c1_i32_255
  let c0_i32_256 : BitVec 32 := 0#32
  let v320 : BitVec 32 := Scalar.maxsi v319 c0_i32_256
  let c7_i32 : BitVec 32 := 7#32
  let v321 : BitVec 32 := Scalar.minsi v320 c7_i32
  let c1_i32_476 : BitVec 32 := 1#32
  let v625 : BitVec 32 := Scalar.subi v321 c1_i32_476
  let c1_i32_478 : BitVec 32 := 1#32
  let v628 : BitVec 32 := Scalar.subi v625 c1_i32_478
  let c1_i32_480 : BitVec 32 := 1#32
  let v631 : BitVec 32 := Scalar.subi v628 c1_i32_480
  let c1_i32_482 : BitVec 32 := 1#32
  let v634 : BitVec 32 := Scalar.subi v631 c1_i32_482
  let c0_i32_483 : BitVec 32 := 0#32
  let v635 : BitVec 1 := Scalar.cmpi .ne v634 c0_i32_483
  v635

def k0_cond6 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_255 : BitVec 32 := 1#32
  let v319 : BitVec 32 := Scalar.subi v20 c1_i32_255
  let c0_i32_256 : BitVec 32 := 0#32
  let v320 : BitVec 32 := Scalar.maxsi v319 c0_i32_256
  let c7_i32 : BitVec 32 := 7#32
  let v321 : BitVec 32 := Scalar.minsi v320 c7_i32
  let c1_i32_476 : BitVec 32 := 1#32
  let v625 : BitVec 32 := Scalar.subi v321 c1_i32_476
  let c1_i32_478 : BitVec 32 := 1#32
  let v628 : BitVec 32 := Scalar.subi v625 c1_i32_478
  let c1_i32_480 : BitVec 32 := 1#32
  let v631 : BitVec 32 := Scalar.subi v628 c1_i32_480
  let c1_i32_482 : BitVec 32 := 1#32
  let v634 : BitVec 32 := Scalar.subi v631 c1_i32_482
  let c1_i32_484 : BitVec 32 := 1#32
  let v637 : BitVec 32 := Scalar.subi v634 c1_i32_484
  let c0_i32_485 : BitVec 32 := 0#32
  let v638 : BitVec 1 := Scalar.cmpi .ne v637 c0_i32_485
  v638

def k0_cond7 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_255 : BitVec 32 := 1#32
  let v319 : BitVec 32 := Scalar.subi v20 c1_i32_255
  let c0_i32_256 : BitVec 32 := 0#32
  let v320 : BitVec 32 := Scalar.maxsi v319 c0_i32_256
  let c7_i32 : BitVec 32 := 7#32
  let v321 : BitVec 32 := Scalar.minsi v320 c7_i32
  let c1_i32_476 : BitVec 32 := 1#32
  let v625 : BitVec 32 := Scalar.subi v321 c1_i32_476
  let c1_i32_478 : BitVec 32 := 1#32
  let v628 : BitVec 32 := Scalar.subi v625 c1_i32_478
  let c1_i32_480 : BitVec 32 := 1#32
  let v631 : BitVec 32 := Scalar.subi v628 c1_i32_480
  let c1_i32_482 : BitVec 32 := 1#32
  let v634 : BitVec 32 := Scalar.subi v631 c1_i32_482
  let c1_i32_484 : BitVec 32 := 1#32
  let v637 : BitVec 32 := Scalar.subi v634 c1_i32_484
  let c1_i32_486 : BitVec 32 := 1#32
  let v640 : BitVec 32 := Scalar.subi v637 c1_i32_486
  let c0_i32_487 : BitVec 32 := 0#32
  let v641 : BitVec 1 := Scalar.cmpi .ne v640 c0_i32_487
  v641

@[reducible] def k0_t3_loop : Scf.Loop 32 :=
  let c0_i32_492 : BitVec 32 := 0#32
  let c32_i32 : BitVec 32 := 32#32
  let v647 : BitVec 32 := Scalar.addi c0_i32_492 c32_i32
  let c1_i32_493 : BitVec 32 := 1#32
  ⟨c0_i32_492, v647, c1_i32_493⟩
@[reducible] def k0_t4_loop : Scf.Loop 32 :=
  let c0_i32_492 : BitVec 32 := 0#32
  let c32_i32 : BitVec 32 := 32#32
  let v647 : BitVec 32 := Scalar.addi c0_i32_492 c32_i32
  let c1_i32_493 : BitVec 32 := 1#32
  ⟨c0_i32_492, v647, c1_i32_493⟩
@[reducible] def k0_t5_loop : Scf.Loop 32 :=
  let c0_i32_490 : BitVec 32 := 0#32
  let c32_i32 : BitVec 32 := 32#32
  let v644 : BitVec 32 := Scalar.addi c0_i32_490 c32_i32
  let c1_i32_491 : BitVec 32 := 1#32
  ⟨c0_i32_490, v644, c1_i32_491⟩
@[reducible] def k0_t6_loop : Scf.Loop 32 :=
  let c0_i32_488 : BitVec 32 := 0#32
  let c32_i32 : BitVec 32 := 32#32
  let v641 : BitVec 32 := Scalar.addi c0_i32_488 c32_i32
  let c1_i32_489 : BitVec 32 := 1#32
  ⟨c0_i32_488, v641, c1_i32_489⟩
@[reducible] def k0_t7_loop : Scf.Loop 32 :=
  let c0_i32_486 : BitVec 32 := 0#32
  let c32_i32 : BitVec 32 := 32#32
  let v638 : BitVec 32 := Scalar.addi c0_i32_486 c32_i32
  let c1_i32_487 : BitVec 32 := 1#32
  ⟨c0_i32_486, v638, c1_i32_487⟩
@[reducible] def k0_t8_loop : Scf.Loop 32 :=
  let c0_i32_484 : BitVec 32 := 0#32
  let c32_i32 : BitVec 32 := 32#32
  let v635 : BitVec 32 := Scalar.addi c0_i32_484 c32_i32
  let c1_i32_485 : BitVec 32 := 1#32
  ⟨c0_i32_484, v635, c1_i32_485⟩
@[reducible] def k0_t9_loop : Scf.Loop 32 :=
  let c0_i32_482 : BitVec 32 := 0#32
  let c32_i32 : BitVec 32 := 32#32
  let v632 : BitVec 32 := Scalar.addi c0_i32_482 c32_i32
  let c1_i32_483 : BitVec 32 := 1#32
  ⟨c0_i32_482, v632, c1_i32_483⟩
@[reducible] def k0_t10_loop : Scf.Loop 32 :=
  let c0_i32_480 : BitVec 32 := 0#32
  let c32_i32 : BitVec 32 := 32#32
  let v629 : BitVec 32 := Scalar.addi c0_i32_480 c32_i32
  let c1_i32_481 : BitVec 32 := 1#32
  ⟨c0_i32_480, v629, c1_i32_481⟩
@[reducible] def k0_t11_loop (i : grid0.Coords) : Scf.Loop 32 :=
  let c0_i32_278 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v381 : BitVec 32 := Scalar.subi v20 c0_i32_278
  let c1_i32_279 : BitVec 32 := 1#32
  let v383 : BitVec 32 := Scalar.divsi v381 c1_i32_279
  let v384 : BitVec 32 := Scalar.muli v383 c1_i32_279
  let v385 : BitVec 32 := Scalar.addi c0_i32_278 v384
  let c1_i32_280 : BitVec 32 := 1#32
  ⟨c0_i32_278, v385, c1_i32_280⟩
def k0_mult3 (i : grid0.Coords) (k0_t11 : Fin (k0_t11_loop i).trips) : BitVec 32 :=
  let c0_i32_278 : BitVec 32 := 0#32
  let c1_i32_280 : BitVec 32 := 1#32
  let arg16 : BitVec 32 := Scf.iv c0_i32_278 c1_i32_280 k0_t11
  let c256_i32_476 : BitVec 32 := 256#32
  let v625 : BitVec 32 := Scalar.muli arg16 c256_i32_476
  v625
def k0_off9 (i : grid0.Coords) (k0_t11 : Fin (k0_t11_loop i).trips) : Fin 3 → Nat :=
  let c0_477 : Index := 0#32
  let c0_i32_278 : BitVec 32 := 0#32
  let c1_i32_280 : BitVec 32 := 1#32
  let arg16 : BitVec 32 := Scf.iv c0_i32_278 c1_i32_280 k0_t11
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off10 (i : grid0.Coords) (k0_t11 : Fin (k0_t11_loop i).trips) : Fin 3 → Nat :=
  let c1_479 : Index := 1#32
  let c0_i32_278 : BitVec 32 := 0#32
  let c1_i32_280 : BitVec 32 := 1#32
  let arg16 : BitVec 32 := Scf.iv c0_i32_278 c1_i32_280 k0_t11
  let c256_i32_476 : BitVec 32 := 256#32
  let v625 : BitVec 32 := Scalar.muli arg16 c256_i32_476
  let v626 : BitVec 32 := v625
  let v697 : Index := Scalar.indexCast v626
  let c0_480 : Index := 0#32
  ![1, v697.toNat, 0]
def k0_off11 (i : grid0.Coords) (k0_t11 : Fin (k0_t11_loop i).trips) : Fin 3 → Nat :=
  let c2_481 : Index := 2#32
  let c0_i32_278 : BitVec 32 := 0#32
  let c1_i32_280 : BitVec 32 := 1#32
  let arg16 : BitVec 32 := Scf.iv c0_i32_278 c1_i32_280 k0_t11
  let c256_i32_476 : BitVec 32 := 256#32
  let v625 : BitVec 32 := Scalar.muli arg16 c256_i32_476
  let v626 : BitVec 32 := v625
  let v767 : Index := Scalar.indexCast v626
  let c0_482 : Index := 0#32
  ![2, v767.toNat, 0]
def k0_off12 (i : grid0.Coords) (k0_t11 : Fin (k0_t11_loop i).trips) : Fin 3 → Nat :=
  let c3_483 : Index := 3#32
  let c0_i32_278 : BitVec 32 := 0#32
  let c1_i32_280 : BitVec 32 := 1#32
  let arg16 : BitVec 32 := Scf.iv c0_i32_278 c1_i32_280 k0_t11
  let c256_i32_476 : BitVec 32 := 256#32
  let v625 : BitVec 32 := Scalar.muli arg16 c256_i32_476
  let v626 : BitVec 32 := v625
  let v837 : Index := Scalar.indexCast v626
  let c0_484 : Index := 0#32
  ![3, v837.toNat, 0]
@[reducible] def k0_t12_loop (i : grid0.Coords) : Scf.Loop 32 :=
  let c0_i32_278 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v381 : BitVec 32 := Scalar.subi v20 c0_i32_278
  let c1_i32_279 : BitVec 32 := 1#32
  let v383 : BitVec 32 := Scalar.divsi v381 c1_i32_279
  let v384 : BitVec 32 := Scalar.muli v383 c1_i32_279
  let v385 : BitVec 32 := Scalar.addi c0_i32_278 v384
  let v382 : BitVec 32 := Scalar.addi c0_i32_278 v381
  let c1_i32_281 : BitVec 32 := 1#32
  ⟨v385, v382, c1_i32_281⟩
def k0_mult4 (i : grid0.Coords) (k0_t12 : Fin (k0_t12_loop i).trips) : BitVec 32 :=
  let c0_i32_278 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v381 : BitVec 32 := Scalar.subi v20 c0_i32_278
  let c1_i32_279 : BitVec 32 := 1#32
  let v383 : BitVec 32 := Scalar.divsi v381 c1_i32_279
  let v384 : BitVec 32 := Scalar.muli v383 c1_i32_279
  let v385 : BitVec 32 := Scalar.addi c0_i32_278 v384
  let c1_i32_281 : BitVec 32 := 1#32
  let arg16 : BitVec 32 := Scf.iv v385 c1_i32_281 k0_t12
  let c256_i32_476 : BitVec 32 := 256#32
  let v625 : BitVec 32 := Scalar.muli arg16 c256_i32_476
  v625
def k0_off13 (i : grid0.Coords) (k0_t12 : Fin (k0_t12_loop i).trips) : Fin 3 → Nat :=
  let c0_477 : Index := 0#32
  let c0_i32_278 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v381 : BitVec 32 := Scalar.subi v20 c0_i32_278
  let c1_i32_279 : BitVec 32 := 1#32
  let v383 : BitVec 32 := Scalar.divsi v381 c1_i32_279
  let v384 : BitVec 32 := Scalar.muli v383 c1_i32_279
  let v385 : BitVec 32 := Scalar.addi c0_i32_278 v384
  let c1_i32_281 : BitVec 32 := 1#32
  let arg16 : BitVec 32 := Scf.iv v385 c1_i32_281 k0_t12
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off14 (i : grid0.Coords) (k0_t12 : Fin (k0_t12_loop i).trips) : Fin 3 → Nat :=
  let c1_479 : Index := 1#32
  let c0_i32_278 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v381 : BitVec 32 := Scalar.subi v20 c0_i32_278
  let c1_i32_279 : BitVec 32 := 1#32
  let v383 : BitVec 32 := Scalar.divsi v381 c1_i32_279
  let v384 : BitVec 32 := Scalar.muli v383 c1_i32_279
  let v385 : BitVec 32 := Scalar.addi c0_i32_278 v384
  let c1_i32_281 : BitVec 32 := 1#32
  let arg16 : BitVec 32 := Scf.iv v385 c1_i32_281 k0_t12
  let c256_i32_476 : BitVec 32 := 256#32
  let v625 : BitVec 32 := Scalar.muli arg16 c256_i32_476
  let v626 : BitVec 32 := v625
  let v697 : Index := Scalar.indexCast v626
  let c0_480 : Index := 0#32
  ![1, v697.toNat, 0]
def k0_off15 (i : grid0.Coords) (k0_t12 : Fin (k0_t12_loop i).trips) : Fin 3 → Nat :=
  let c2_481 : Index := 2#32
  let c0_i32_278 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v381 : BitVec 32 := Scalar.subi v20 c0_i32_278
  let c1_i32_279 : BitVec 32 := 1#32
  let v383 : BitVec 32 := Scalar.divsi v381 c1_i32_279
  let v384 : BitVec 32 := Scalar.muli v383 c1_i32_279
  let v385 : BitVec 32 := Scalar.addi c0_i32_278 v384
  let c1_i32_281 : BitVec 32 := 1#32
  let arg16 : BitVec 32 := Scf.iv v385 c1_i32_281 k0_t12
  let c256_i32_476 : BitVec 32 := 256#32
  let v625 : BitVec 32 := Scalar.muli arg16 c256_i32_476
  let v626 : BitVec 32 := v625
  let v767 : Index := Scalar.indexCast v626
  let c0_482 : Index := 0#32
  ![2, v767.toNat, 0]
def k0_off16 (i : grid0.Coords) (k0_t12 : Fin (k0_t12_loop i).trips) : Fin 3 → Nat :=
  let c3_483 : Index := 3#32
  let c0_i32_278 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v381 : BitVec 32 := Scalar.subi v20 c0_i32_278
  let c1_i32_279 : BitVec 32 := 1#32
  let v383 : BitVec 32 := Scalar.divsi v381 c1_i32_279
  let v384 : BitVec 32 := Scalar.muli v383 c1_i32_279
  let v385 : BitVec 32 := Scalar.addi c0_i32_278 v384
  let c1_i32_281 : BitVec 32 := 1#32
  let arg16 : BitVec 32 := Scf.iv v385 c1_i32_281 k0_t12
  let c256_i32_476 : BitVec 32 := 256#32
  let v625 : BitVec 32 := Scalar.muli arg16 c256_i32_476
  let v626 : BitVec 32 := v625
  let v837 : Index := Scalar.indexCast v626
  let c0_484 : Index := 0#32
  ![3, v837.toNat, 0]
@[reducible] def k0_t13_loop (v427 : BitVec 32) (v431 : BitVec 32) (v435 : BitVec 32) (v439 : BitVec 32) : Scf.Loop 32 :=
  let c0_i32_480 : BitVec 32 := 0#32
  let v440 : BitVec 32 := Scalar.maxsi v427 v431
  let v441 : BitVec 32 := Scalar.maxsi v435 v439
  let v442 : BitVec 32 := Scalar.maxsi v440 v441
  let c256_i32_317 : BitVec 32 := 256#32
  let v443 : BitVec 32 := Scalar.subi v442 c256_i32_317
  let v629 : BitVec 32 := Scalar.subi v443 c0_i32_480
  let c1_i32_481 : BitVec 32 := 1#32
  let v631 : BitVec 32 := Scalar.divsi v629 c1_i32_481
  let v632 : BitVec 32 := Scalar.muli v631 c1_i32_481
  let v633 : BitVec 32 := Scalar.addi c0_i32_480 v632
  let c1_i32_482 : BitVec 32 := 1#32
  ⟨c0_i32_480, v633, c1_i32_482⟩
def k0_cond8 (v427 : BitVec 32) (v431 : BitVec 32) (v435 : BitVec 32) (v439 : BitVec 32) : BitVec 1 :=
  let v440 : BitVec 32 := Scalar.maxsi v427 v431
  let v441 : BitVec 32 := Scalar.maxsi v435 v439
  let v442 : BitVec 32 := Scalar.maxsi v440 v441
  let c256_i32_317 : BitVec 32 := 256#32
  let v443 : BitVec 32 := Scalar.subi v442 c256_i32_317
  let c0_i32_318 : BitVec 32 := 0#32
  let v444 : BitVec 1 := Scalar.cmpi .sgt v443 c0_i32_318
  let v445 : BitVec 32 := Scalar.extui v444
  let c0_i32_319 : BitVec 32 := 0#32
  let v446 : BitVec 1 := Scalar.cmpi .ne v445 c0_i32_319
  v446

@[reducible] def k0_t14_loop (i : grid0.Coords) : Scf.Loop 32 :=
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_511 : BitVec 32 := 1#32
  ⟨c0_i32_509, v665, c1_i32_511⟩
def k0_mult5 (i : grid0.Coords) (k0_t14 : Fin (k0_t14_loop i).trips) : BitVec 32 :=
  let c0_i32_509 : BitVec 32 := 0#32
  let c1_i32_511 : BitVec 32 := 1#32
  let arg29 : BitVec 32 := Scf.iv c0_i32_509 c1_i32_511 k0_t14
  let c256_i32_533 : BitVec 32 := 256#32
  let v720 : BitVec 32 := Scalar.muli arg29 c256_i32_533
  v720
def k0_off17 (i : grid0.Coords) (k0_t14 : Fin (k0_t14_loop i).trips) : Fin 3 → Nat :=
  let c0_534 : Index := 0#32
  let c0_i32_509 : BitVec 32 := 0#32
  let c1_i32_511 : BitVec 32 := 1#32
  let arg29 : BitVec 32 := Scf.iv c0_i32_509 c1_i32_511 k0_t14
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off18 (i : grid0.Coords) (k0_t14 : Fin (k0_t14_loop i).trips) : Fin 3 → Nat :=
  let c1_538 : Index := 1#32
  let c0_i32_509 : BitVec 32 := 0#32
  let c1_i32_511 : BitVec 32 := 1#32
  let arg29 : BitVec 32 := Scf.iv c0_i32_509 c1_i32_511 k0_t14
  let c256_i32_533 : BitVec 32 := 256#32
  let v720 : BitVec 32 := Scalar.muli arg29 c256_i32_533
  let v721 : BitVec 32 := v720
  let v802 : Index := Scalar.indexCast v721
  let c0_539 : Index := 0#32
  ![1, v802.toNat, 0]
def k0_off19 (i : grid0.Coords) (k0_t14 : Fin (k0_t14_loop i).trips) : Fin 3 → Nat :=
  let c2_542 : Index := 2#32
  let c0_i32_509 : BitVec 32 := 0#32
  let c1_i32_511 : BitVec 32 := 1#32
  let arg29 : BitVec 32 := Scf.iv c0_i32_509 c1_i32_511 k0_t14
  let c256_i32_533 : BitVec 32 := 256#32
  let v720 : BitVec 32 := Scalar.muli arg29 c256_i32_533
  let v721 : BitVec 32 := v720
  let v882 : Index := Scalar.indexCast v721
  let c0_543 : Index := 0#32
  ![2, v882.toNat, 0]
def k0_off20 (i : grid0.Coords) (k0_t14 : Fin (k0_t14_loop i).trips) : Fin 3 → Nat :=
  let c3_546 : Index := 3#32
  let c0_i32_509 : BitVec 32 := 0#32
  let c1_i32_511 : BitVec 32 := 1#32
  let arg29 : BitVec 32 := Scf.iv c0_i32_509 c1_i32_511 k0_t14
  let c256_i32_533 : BitVec 32 := 256#32
  let v720 : BitVec 32 := Scalar.muli arg29 c256_i32_533
  let v721 : BitVec 32 := v720
  let v962 : Index := Scalar.indexCast v721
  let c0_547 : Index := 0#32
  ![3, v962.toNat, 0]
@[reducible] def k0_t15_loop (i : grid0.Coords) : Scf.Loop 32 :=
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let v662 : BitVec 32 := Scalar.addi c0_i32_509 v661
  let c1_i32_512 : BitVec 32 := 1#32
  ⟨v665, v662, c1_i32_512⟩
def k0_mult6 (i : grid0.Coords) (k0_t15 : Fin (k0_t15_loop i).trips) : BitVec 32 :=
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t15
  let c256_i32_533 : BitVec 32 := 256#32
  let v720 : BitVec 32 := Scalar.muli arg29 c256_i32_533
  v720
def k0_off21 (i : grid0.Coords) (k0_t15 : Fin (k0_t15_loop i).trips) : Fin 3 → Nat :=
  let c0_534 : Index := 0#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t15
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off22 (i : grid0.Coords) (k0_t15 : Fin (k0_t15_loop i).trips) : Fin 3 → Nat :=
  let c1_538 : Index := 1#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t15
  let c256_i32_533 : BitVec 32 := 256#32
  let v720 : BitVec 32 := Scalar.muli arg29 c256_i32_533
  let v721 : BitVec 32 := v720
  let v802 : Index := Scalar.indexCast v721
  let c0_539 : Index := 0#32
  ![1, v802.toNat, 0]
def k0_off23 (i : grid0.Coords) (k0_t15 : Fin (k0_t15_loop i).trips) : Fin 3 → Nat :=
  let c2_542 : Index := 2#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t15
  let c256_i32_533 : BitVec 32 := 256#32
  let v720 : BitVec 32 := Scalar.muli arg29 c256_i32_533
  let v721 : BitVec 32 := v720
  let v882 : Index := Scalar.indexCast v721
  let c0_543 : Index := 0#32
  ![2, v882.toNat, 0]
def k0_off24 (i : grid0.Coords) (k0_t15 : Fin (k0_t15_loop i).trips) : Fin 3 → Nat :=
  let c3_546 : Index := 3#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t15
  let c256_i32_533 : BitVec 32 := 256#32
  let v720 : BitVec 32 := Scalar.muli arg29 c256_i32_533
  let v721 : BitVec 32 := v720
  let v962 : Index := Scalar.indexCast v721
  let c0_547 : Index := 0#32
  ![3, v962.toNat, 0]
@[reducible] def k0_t16_loop (i : grid0.Coords) : Scf.Loop 32 :=
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_519 : BitVec 32 := 1#32
  ⟨c0_i32_517, v681, c1_i32_519⟩
def k0_mult7 (i : grid0.Coords) (k0_t16 : Fin (k0_t16_loop i).trips) : BitVec 32 :=
  let c0_i32_517 : BitVec 32 := 0#32
  let c1_i32_519 : BitVec 32 := 1#32
  let arg29 : BitVec 32 := Scf.iv c0_i32_517 c1_i32_519 k0_t16
  let c256_i32_533 : BitVec 32 := 256#32
  let v720 : BitVec 32 := Scalar.muli arg29 c256_i32_533
  v720
def k0_off25 (i : grid0.Coords) (k0_t16 : Fin (k0_t16_loop i).trips) : Fin 3 → Nat :=
  let c0_534 : Index := 0#32
  let c0_i32_517 : BitVec 32 := 0#32
  let c1_i32_519 : BitVec 32 := 1#32
  let arg29 : BitVec 32 := Scf.iv c0_i32_517 c1_i32_519 k0_t16
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off26 (i : grid0.Coords) (k0_t16 : Fin (k0_t16_loop i).trips) : Fin 3 → Nat :=
  let c1_539 : Index := 1#32
  let c0_i32_517 : BitVec 32 := 0#32
  let c1_i32_519 : BitVec 32 := 1#32
  let arg29 : BitVec 32 := Scf.iv c0_i32_517 c1_i32_519 k0_t16
  let c256_i32_533 : BitVec 32 := 256#32
  let v720 : BitVec 32 := Scalar.muli arg29 c256_i32_533
  let v721 : BitVec 32 := v720
  let v806 : Index := Scalar.indexCast v721
  let c0_540 : Index := 0#32
  ![1, v806.toNat, 0]
def k0_off27 (i : grid0.Coords) (k0_t16 : Fin (k0_t16_loop i).trips) : Fin 3 → Nat :=
  let c2_544 : Index := 2#32
  let c0_i32_517 : BitVec 32 := 0#32
  let c1_i32_519 : BitVec 32 := 1#32
  let arg29 : BitVec 32 := Scf.iv c0_i32_517 c1_i32_519 k0_t16
  let c256_i32_533 : BitVec 32 := 256#32
  let v720 : BitVec 32 := Scalar.muli arg29 c256_i32_533
  let v721 : BitVec 32 := v720
  let v890 : Index := Scalar.indexCast v721
  let c0_545 : Index := 0#32
  ![2, v890.toNat, 0]
def k0_off28 (i : grid0.Coords) (k0_t16 : Fin (k0_t16_loop i).trips) : Fin 3 → Nat :=
  let c3_549 : Index := 3#32
  let c0_i32_517 : BitVec 32 := 0#32
  let c1_i32_519 : BitVec 32 := 1#32
  let arg29 : BitVec 32 := Scf.iv c0_i32_517 c1_i32_519 k0_t16
  let c256_i32_533 : BitVec 32 := 256#32
  let v720 : BitVec 32 := Scalar.muli arg29 c256_i32_533
  let v721 : BitVec 32 := v720
  let v974 : Index := Scalar.indexCast v721
  let c0_550 : Index := 0#32
  ![3, v974.toNat, 0]
@[reducible] def k0_t17_loop (i : grid0.Coords) : Scf.Loop 32 :=
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let v678 : BitVec 32 := Scalar.addi c0_i32_517 v677
  let c1_i32_520 : BitVec 32 := 1#32
  ⟨v681, v678, c1_i32_520⟩
def k0_mult8 (i : grid0.Coords) (k0_t17 : Fin (k0_t17_loop i).trips) : BitVec 32 :=
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t17
  let c256_i32_533 : BitVec 32 := 256#32
  let v720 : BitVec 32 := Scalar.muli arg29 c256_i32_533
  v720
def k0_off29 (i : grid0.Coords) (k0_t17 : Fin (k0_t17_loop i).trips) : Fin 3 → Nat :=
  let c0_534 : Index := 0#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t17
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off30 (i : grid0.Coords) (k0_t17 : Fin (k0_t17_loop i).trips) : Fin 3 → Nat :=
  let c1_539 : Index := 1#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t17
  let c256_i32_533 : BitVec 32 := 256#32
  let v720 : BitVec 32 := Scalar.muli arg29 c256_i32_533
  let v721 : BitVec 32 := v720
  let v806 : Index := Scalar.indexCast v721
  let c0_540 : Index := 0#32
  ![1, v806.toNat, 0]
def k0_off31 (i : grid0.Coords) (k0_t17 : Fin (k0_t17_loop i).trips) : Fin 3 → Nat :=
  let c2_544 : Index := 2#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t17
  let c256_i32_533 : BitVec 32 := 256#32
  let v720 : BitVec 32 := Scalar.muli arg29 c256_i32_533
  let v721 : BitVec 32 := v720
  let v890 : Index := Scalar.indexCast v721
  let c0_545 : Index := 0#32
  ![2, v890.toNat, 0]
def k0_off32 (i : grid0.Coords) (k0_t17 : Fin (k0_t17_loop i).trips) : Fin 3 → Nat :=
  let c3_549 : Index := 3#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t17
  let c256_i32_533 : BitVec 32 := 256#32
  let v720 : BitVec 32 := Scalar.muli arg29 c256_i32_533
  let v721 : BitVec 32 := v720
  let v974 : Index := Scalar.indexCast v721
  let c0_550 : Index := 0#32
  ![3, v974.toNat, 0]
@[reducible] def k0_t18_loop (v427 : BitVec 32) (v431 : BitVec 32) (v435 : BitVec 32) (v439 : BitVec 32) : Scf.Loop 32 :=
  let c0_i32_480 : BitVec 32 := 0#32
  let v440 : BitVec 32 := Scalar.maxsi v427 v431
  let v441 : BitVec 32 := Scalar.maxsi v435 v439
  let v442 : BitVec 32 := Scalar.maxsi v440 v441
  let c256_i32_317 : BitVec 32 := 256#32
  let v443 : BitVec 32 := Scalar.subi v442 c256_i32_317
  let v629 : BitVec 32 := Scalar.subi v443 c0_i32_480
  let c1_i32_481 : BitVec 32 := 1#32
  let v631 : BitVec 32 := Scalar.divsi v629 c1_i32_481
  let v632 : BitVec 32 := Scalar.muli v631 c1_i32_481
  let v633 : BitVec 32 := Scalar.addi c0_i32_480 v632
  let v630 : BitVec 32 := Scalar.addi c0_i32_480 v629
  let c1_i32_483 : BitVec 32 := 1#32
  ⟨v633, v630, c1_i32_483⟩

def k0_chk1 (v427 : BitVec 32) (v431 : BitVec 32) (v435 : BitVec 32) (v439 : BitVec 32) : Prop :=
  (∀ (k0_h8 : k0_cond8 v427 v431 v435 v439 = 1#1), (k0_t13_loop v427 v431 v435 v439).OK) ∧
  (∀ (k0_h8 : k0_cond8 v427 v431 v435 v439 = 1#1), (k0_t18_loop v427 v431 v435 v439).OK)
theorem k0_t13_ok : ∀ (v427 : BitVec 32) (v431 : BitVec 32) (v435 : BitVec 32) (v439 : BitVec 32) (k0_hw1 : k0_chk1 v427 v431 v435 v439), ∀ (k0_h8 : k0_cond8 v427 v431 v435 v439 = 1#1), (k0_t13_loop v427 v431 v435 v439).OK := fun v427 v431 v435 v439 k0_hw1 k0_h8 => k0_hw1.1 k0_h8
theorem k0_t18_ok : ∀ (v427 : BitVec 32) (v431 : BitVec 32) (v435 : BitVec 32) (v439 : BitVec 32) (k0_hw1 : k0_chk1 v427 v431 v435 v439), ∀ (k0_h8 : k0_cond8 v427 v431 v435 v439 = 1#1), (k0_t18_loop v427 v431 v435 v439).OK := fun v427 v431 v435 v439 k0_hw1 k0_h8 => k0_hw1.2 k0_h8

@[reducible] def k0_t19_loop (i : grid0.Coords) : Scf.Loop 32 :=
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_511 : BitVec 32 := 1#32
  ⟨c0_i32_509, v665, c1_i32_511⟩
def k0_mult9 (i : grid0.Coords) (k0_t19 : Fin (k0_t19_loop i).trips) : BitVec 32 :=
  let c0_i32_509 : BitVec 32 := 0#32
  let c1_i32_511 : BitVec 32 := 1#32
  let arg29 : BitVec 32 := Scf.iv c0_i32_509 c1_i32_511 k0_t19
  let c256_i32_533 : BitVec 32 := 256#32
  let v720 : BitVec 32 := Scalar.muli arg29 c256_i32_533
  v720
def k0_off33 (i : grid0.Coords) (k0_t19 : Fin (k0_t19_loop i).trips) : Fin 3 → Nat :=
  let c0_534 : Index := 0#32
  let c0_i32_509 : BitVec 32 := 0#32
  let c1_i32_511 : BitVec 32 := 1#32
  let arg29 : BitVec 32 := Scf.iv c0_i32_509 c1_i32_511 k0_t19
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off34 (i : grid0.Coords) (k0_t19 : Fin (k0_t19_loop i).trips) : Fin 3 → Nat :=
  let c1_538 : Index := 1#32
  let c0_i32_509 : BitVec 32 := 0#32
  let c1_i32_511 : BitVec 32 := 1#32
  let arg29 : BitVec 32 := Scf.iv c0_i32_509 c1_i32_511 k0_t19
  let c256_i32_533 : BitVec 32 := 256#32
  let v720 : BitVec 32 := Scalar.muli arg29 c256_i32_533
  let v721 : BitVec 32 := v720
  let v802 : Index := Scalar.indexCast v721
  let c0_539 : Index := 0#32
  ![1, v802.toNat, 0]
def k0_off35 (i : grid0.Coords) (k0_t19 : Fin (k0_t19_loop i).trips) : Fin 3 → Nat :=
  let c2_542 : Index := 2#32
  let c0_i32_509 : BitVec 32 := 0#32
  let c1_i32_511 : BitVec 32 := 1#32
  let arg29 : BitVec 32 := Scf.iv c0_i32_509 c1_i32_511 k0_t19
  let c256_i32_533 : BitVec 32 := 256#32
  let v720 : BitVec 32 := Scalar.muli arg29 c256_i32_533
  let v721 : BitVec 32 := v720
  let v882 : Index := Scalar.indexCast v721
  let c0_543 : Index := 0#32
  ![2, v882.toNat, 0]
def k0_off36 (i : grid0.Coords) (k0_t19 : Fin (k0_t19_loop i).trips) : Fin 3 → Nat :=
  let c3_546 : Index := 3#32
  let c0_i32_509 : BitVec 32 := 0#32
  let c1_i32_511 : BitVec 32 := 1#32
  let arg29 : BitVec 32 := Scf.iv c0_i32_509 c1_i32_511 k0_t19
  let c256_i32_533 : BitVec 32 := 256#32
  let v720 : BitVec 32 := Scalar.muli arg29 c256_i32_533
  let v721 : BitVec 32 := v720
  let v962 : Index := Scalar.indexCast v721
  let c0_547 : Index := 0#32
  ![3, v962.toNat, 0]
@[reducible] def k0_t20_loop (i : grid0.Coords) : Scf.Loop 32 :=
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let v662 : BitVec 32 := Scalar.addi c0_i32_509 v661
  let c1_i32_512 : BitVec 32 := 1#32
  ⟨v665, v662, c1_i32_512⟩
def k0_mult10 (i : grid0.Coords) (k0_t20 : Fin (k0_t20_loop i).trips) : BitVec 32 :=
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t20
  let c256_i32_533 : BitVec 32 := 256#32
  let v720 : BitVec 32 := Scalar.muli arg29 c256_i32_533
  v720
def k0_off37 (i : grid0.Coords) (k0_t20 : Fin (k0_t20_loop i).trips) : Fin 3 → Nat :=
  let c0_534 : Index := 0#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t20
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off38 (i : grid0.Coords) (k0_t20 : Fin (k0_t20_loop i).trips) : Fin 3 → Nat :=
  let c1_538 : Index := 1#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t20
  let c256_i32_533 : BitVec 32 := 256#32
  let v720 : BitVec 32 := Scalar.muli arg29 c256_i32_533
  let v721 : BitVec 32 := v720
  let v802 : Index := Scalar.indexCast v721
  let c0_539 : Index := 0#32
  ![1, v802.toNat, 0]
def k0_off39 (i : grid0.Coords) (k0_t20 : Fin (k0_t20_loop i).trips) : Fin 3 → Nat :=
  let c2_542 : Index := 2#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t20
  let c256_i32_533 : BitVec 32 := 256#32
  let v720 : BitVec 32 := Scalar.muli arg29 c256_i32_533
  let v721 : BitVec 32 := v720
  let v882 : Index := Scalar.indexCast v721
  let c0_543 : Index := 0#32
  ![2, v882.toNat, 0]
def k0_off40 (i : grid0.Coords) (k0_t20 : Fin (k0_t20_loop i).trips) : Fin 3 → Nat :=
  let c3_546 : Index := 3#32
  let c0_i32_509 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v661 : BitVec 32 := Scalar.subi v20 c0_i32_509
  let c1_i32_510 : BitVec 32 := 1#32
  let v663 : BitVec 32 := Scalar.divsi v661 c1_i32_510
  let v664 : BitVec 32 := Scalar.muli v663 c1_i32_510
  let v665 : BitVec 32 := Scalar.addi c0_i32_509 v664
  let c1_i32_512 : BitVec 32 := 1#32
  let arg29 : BitVec 32 := Scf.iv v665 c1_i32_512 k0_t20
  let c256_i32_533 : BitVec 32 := 256#32
  let v720 : BitVec 32 := Scalar.muli arg29 c256_i32_533
  let v721 : BitVec 32 := v720
  let v962 : Index := Scalar.indexCast v721
  let c0_547 : Index := 0#32
  ![3, v962.toNat, 0]
@[reducible] def k0_t21_loop (i : grid0.Coords) : Scf.Loop 32 :=
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_519 : BitVec 32 := 1#32
  ⟨c0_i32_517, v681, c1_i32_519⟩
def k0_mult11 (i : grid0.Coords) (k0_t21 : Fin (k0_t21_loop i).trips) : BitVec 32 :=
  let c0_i32_517 : BitVec 32 := 0#32
  let c1_i32_519 : BitVec 32 := 1#32
  let arg29 : BitVec 32 := Scf.iv c0_i32_517 c1_i32_519 k0_t21
  let c256_i32_533 : BitVec 32 := 256#32
  let v720 : BitVec 32 := Scalar.muli arg29 c256_i32_533
  v720
def k0_off41 (i : grid0.Coords) (k0_t21 : Fin (k0_t21_loop i).trips) : Fin 3 → Nat :=
  let c0_534 : Index := 0#32
  let c0_i32_517 : BitVec 32 := 0#32
  let c1_i32_519 : BitVec 32 := 1#32
  let arg29 : BitVec 32 := Scf.iv c0_i32_517 c1_i32_519 k0_t21
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off42 (i : grid0.Coords) (k0_t21 : Fin (k0_t21_loop i).trips) : Fin 3 → Nat :=
  let c1_539 : Index := 1#32
  let c0_i32_517 : BitVec 32 := 0#32
  let c1_i32_519 : BitVec 32 := 1#32
  let arg29 : BitVec 32 := Scf.iv c0_i32_517 c1_i32_519 k0_t21
  let c256_i32_533 : BitVec 32 := 256#32
  let v720 : BitVec 32 := Scalar.muli arg29 c256_i32_533
  let v721 : BitVec 32 := v720
  let v806 : Index := Scalar.indexCast v721
  let c0_540 : Index := 0#32
  ![1, v806.toNat, 0]
def k0_off43 (i : grid0.Coords) (k0_t21 : Fin (k0_t21_loop i).trips) : Fin 3 → Nat :=
  let c2_544 : Index := 2#32
  let c0_i32_517 : BitVec 32 := 0#32
  let c1_i32_519 : BitVec 32 := 1#32
  let arg29 : BitVec 32 := Scf.iv c0_i32_517 c1_i32_519 k0_t21
  let c256_i32_533 : BitVec 32 := 256#32
  let v720 : BitVec 32 := Scalar.muli arg29 c256_i32_533
  let v721 : BitVec 32 := v720
  let v890 : Index := Scalar.indexCast v721
  let c0_545 : Index := 0#32
  ![2, v890.toNat, 0]
def k0_off44 (i : grid0.Coords) (k0_t21 : Fin (k0_t21_loop i).trips) : Fin 3 → Nat :=
  let c3_549 : Index := 3#32
  let c0_i32_517 : BitVec 32 := 0#32
  let c1_i32_519 : BitVec 32 := 1#32
  let arg29 : BitVec 32 := Scf.iv c0_i32_517 c1_i32_519 k0_t21
  let c256_i32_533 : BitVec 32 := 256#32
  let v720 : BitVec 32 := Scalar.muli arg29 c256_i32_533
  let v721 : BitVec 32 := v720
  let v974 : Index := Scalar.indexCast v721
  let c0_550 : Index := 0#32
  ![3, v974.toNat, 0]
@[reducible] def k0_t22_loop (i : grid0.Coords) : Scf.Loop 32 :=
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let v678 : BitVec 32 := Scalar.addi c0_i32_517 v677
  let c1_i32_520 : BitVec 32 := 1#32
  ⟨v681, v678, c1_i32_520⟩
def k0_mult12 (i : grid0.Coords) (k0_t22 : Fin (k0_t22_loop i).trips) : BitVec 32 :=
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t22
  let c256_i32_533 : BitVec 32 := 256#32
  let v720 : BitVec 32 := Scalar.muli arg29 c256_i32_533
  v720
def k0_off45 (i : grid0.Coords) (k0_t22 : Fin (k0_t22_loop i).trips) : Fin 3 → Nat :=
  let c0_534 : Index := 0#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t22
  let c256_i32_533 : BitVec 32 := 256#32
  let v720 : BitVec 32 := Scalar.muli arg29 c256_i32_533
  let v721 : BitVec 32 := v720
  let v722 : Index := Scalar.indexCast v721
  let c0_535 : Index := 0#32
  ![0, v722.toNat, 0]
def k0_off46 (i : grid0.Coords) (k0_t22 : Fin (k0_t22_loop i).trips) : Fin 3 → Nat :=
  let c1_539 : Index := 1#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t22
  let c256_i32_533 : BitVec 32 := 256#32
  let v720 : BitVec 32 := Scalar.muli arg29 c256_i32_533
  let v721 : BitVec 32 := v720
  let v806 : Index := Scalar.indexCast v721
  let c0_540 : Index := 0#32
  ![1, v806.toNat, 0]
def k0_off47 (i : grid0.Coords) (k0_t22 : Fin (k0_t22_loop i).trips) : Fin 3 → Nat :=
  let c2_544 : Index := 2#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t22
  let c256_i32_533 : BitVec 32 := 256#32
  let v720 : BitVec 32 := Scalar.muli arg29 c256_i32_533
  let v721 : BitVec 32 := v720
  let v890 : Index := Scalar.indexCast v721
  let c0_545 : Index := 0#32
  ![2, v890.toNat, 0]
def k0_off48 (i : grid0.Coords) (k0_t22 : Fin (k0_t22_loop i).trips) : Fin 3 → Nat :=
  let c3_549 : Index := 3#32
  let c0_i32_517 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v677 : BitVec 32 := Scalar.subi v20 c0_i32_517
  let c1_i32_518 : BitVec 32 := 1#32
  let v679 : BitVec 32 := Scalar.divsi v677 c1_i32_518
  let v680 : BitVec 32 := Scalar.muli v679 c1_i32_518
  let v681 : BitVec 32 := Scalar.addi c0_i32_517 v680
  let c1_i32_520 : BitVec 32 := 1#32
  let arg29 : BitVec 32 := Scf.iv v681 c1_i32_520 k0_t22
  let c256_i32_533 : BitVec 32 := 256#32
  let v720 : BitVec 32 := Scalar.muli arg29 c256_i32_533
  let v721 : BitVec 32 := v720
  let v974 : Index := Scalar.indexCast v721
  let c0_550 : Index := 0#32
  ![3, v974.toNat, 0]
@[reducible] def k0_t23_loop (i : grid0.Coords) : Scf.Loop 32 :=
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_366 : BitVec 32 := 1#32
  ⟨c0_i32_364, v483, c1_i32_366⟩
def k0_mult13 (i : grid0.Coords) (k0_t23 : Fin (k0_t23_loop i).trips) : BitVec 32 :=
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  v625
def k0_off49 (i : grid0.Coords) (k0_t23 : Fin (k0_t23_loop i).trips) : Fin 3 → Nat :=
  let c0_477 : Index := 0#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off50 (i : grid0.Coords) (k0_t23 : Fin (k0_t23_loop i).trips) : Fin 3 → Nat :=
  let c0_482 : Index := 0#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v646 : Index := Scalar.indexCast v626
  let c0_483 : Index := 0#32
  ![0, v646.toNat, 0]
def k0_off51 (i : grid0.Coords) (k0_t23 : Fin (k0_t23_loop i).trips) : Fin 3 → Nat :=
  let c0_486 : Index := 0#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v654 : Index := Scalar.indexCast v626
  let c0_487 : Index := 0#32
  ![0, v654.toNat, 0]
def k0_off52 (i : grid0.Coords) (k0_t23 : Fin (k0_t23_loop i).trips) : Fin 3 → Nat :=
  let c1_489 : Index := 1#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v661 : Index := Scalar.indexCast v626
  let c0_490 : Index := 0#32
  ![1, v661.toNat, 0]
def k0_off53 (i : grid0.Coords) (k0_t23 : Fin (k0_t23_loop i).trips) : Fin 3 → Nat :=
  let c1_494 : Index := 1#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v680 : Index := Scalar.indexCast v626
  let c0_495 : Index := 0#32
  ![1, v680.toNat, 0]
def k0_off54 (i : grid0.Coords) (k0_t23 : Fin (k0_t23_loop i).trips) : Fin 3 → Nat :=
  let c1_498 : Index := 1#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v688 : Index := Scalar.indexCast v626
  let c0_499 : Index := 0#32
  ![1, v688.toNat, 0]
def k0_off55 (i : grid0.Coords) (k0_t23 : Fin (k0_t23_loop i).trips) : Fin 3 → Nat :=
  let c2_501 : Index := 2#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v695 : Index := Scalar.indexCast v626
  let c0_502 : Index := 0#32
  ![2, v695.toNat, 0]
def k0_off56 (i : grid0.Coords) (k0_t23 : Fin (k0_t23_loop i).trips) : Fin 3 → Nat :=
  let c2_506 : Index := 2#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v714 : Index := Scalar.indexCast v626
  let c0_507 : Index := 0#32
  ![2, v714.toNat, 0]
def k0_off57 (i : grid0.Coords) (k0_t23 : Fin (k0_t23_loop i).trips) : Fin 3 → Nat :=
  let c2_510 : Index := 2#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v722 : Index := Scalar.indexCast v626
  let c0_511 : Index := 0#32
  ![2, v722.toNat, 0]
def k0_off58 (i : grid0.Coords) (k0_t23 : Fin (k0_t23_loop i).trips) : Fin 3 → Nat :=
  let c3_513 : Index := 3#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v729 : Index := Scalar.indexCast v626
  let c0_514 : Index := 0#32
  ![3, v729.toNat, 0]
def k0_off59 (i : grid0.Coords) (k0_t23 : Fin (k0_t23_loop i).trips) : Fin 3 → Nat :=
  let c3_518 : Index := 3#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v748 : Index := Scalar.indexCast v626
  let c0_519 : Index := 0#32
  ![3, v748.toNat, 0]
def k0_off60 (i : grid0.Coords) (k0_t23 : Fin (k0_t23_loop i).trips) : Fin 3 → Nat :=
  let c3_522 : Index := 3#32
  let c0_i32_364 : BitVec 32 := 0#32
  let c1_i32_366 : BitVec 32 := 1#32
  let arg16 : BitVec 32 := Scf.iv c0_i32_364 c1_i32_366 k0_t23
  let c256_i32_476 : BitVec 32 := 256#32
  let v625 : BitVec 32 := Scalar.muli arg16 c256_i32_476
  let v626 : BitVec 32 := v625
  let v756 : Index := Scalar.indexCast v626
  let c0_523 : Index := 0#32
  ![3, v756.toNat, 0]
@[reducible] def k0_t24_loop (i : grid0.Coords) : Scf.Loop 32 :=
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let v480 : BitVec 32 := Scalar.addi c0_i32_364 v479
  let c1_i32_367 : BitVec 32 := 1#32
  ⟨v483, v480, c1_i32_367⟩
def k0_mult14 (i : grid0.Coords) (k0_t24 : Fin (k0_t24_loop i).trips) : BitVec 32 :=
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  v625
def k0_off61 (i : grid0.Coords) (k0_t24 : Fin (k0_t24_loop i).trips) : Fin 3 → Nat :=
  let c0_477 : Index := 0#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off62 (i : grid0.Coords) (k0_t24 : Fin (k0_t24_loop i).trips) : Fin 3 → Nat :=
  let c0_482 : Index := 0#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v646 : Index := Scalar.indexCast v626
  let c0_483 : Index := 0#32
  ![0, v646.toNat, 0]
def k0_off63 (i : grid0.Coords) (k0_t24 : Fin (k0_t24_loop i).trips) : Fin 3 → Nat :=
  let c0_486 : Index := 0#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v654 : Index := Scalar.indexCast v626
  let c0_487 : Index := 0#32
  ![0, v654.toNat, 0]
def k0_off64 (i : grid0.Coords) (k0_t24 : Fin (k0_t24_loop i).trips) : Fin 3 → Nat :=
  let c1_489 : Index := 1#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v661 : Index := Scalar.indexCast v626
  let c0_490 : Index := 0#32
  ![1, v661.toNat, 0]
def k0_off65 (i : grid0.Coords) (k0_t24 : Fin (k0_t24_loop i).trips) : Fin 3 → Nat :=
  let c1_494 : Index := 1#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v680 : Index := Scalar.indexCast v626
  let c0_495 : Index := 0#32
  ![1, v680.toNat, 0]
def k0_off66 (i : grid0.Coords) (k0_t24 : Fin (k0_t24_loop i).trips) : Fin 3 → Nat :=
  let c1_498 : Index := 1#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v688 : Index := Scalar.indexCast v626
  let c0_499 : Index := 0#32
  ![1, v688.toNat, 0]
def k0_off67 (i : grid0.Coords) (k0_t24 : Fin (k0_t24_loop i).trips) : Fin 3 → Nat :=
  let c2_501 : Index := 2#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v695 : Index := Scalar.indexCast v626
  let c0_502 : Index := 0#32
  ![2, v695.toNat, 0]
def k0_off68 (i : grid0.Coords) (k0_t24 : Fin (k0_t24_loop i).trips) : Fin 3 → Nat :=
  let c2_506 : Index := 2#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v714 : Index := Scalar.indexCast v626
  let c0_507 : Index := 0#32
  ![2, v714.toNat, 0]
def k0_off69 (i : grid0.Coords) (k0_t24 : Fin (k0_t24_loop i).trips) : Fin 3 → Nat :=
  let c2_510 : Index := 2#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v722 : Index := Scalar.indexCast v626
  let c0_511 : Index := 0#32
  ![2, v722.toNat, 0]
def k0_off70 (i : grid0.Coords) (k0_t24 : Fin (k0_t24_loop i).trips) : Fin 3 → Nat :=
  let c3_513 : Index := 3#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v729 : Index := Scalar.indexCast v626
  let c0_514 : Index := 0#32
  ![3, v729.toNat, 0]
def k0_off71 (i : grid0.Coords) (k0_t24 : Fin (k0_t24_loop i).trips) : Fin 3 → Nat :=
  let c3_518 : Index := 3#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v748 : Index := Scalar.indexCast v626
  let c0_519 : Index := 0#32
  ![3, v748.toNat, 0]
def k0_off72 (i : grid0.Coords) (k0_t24 : Fin (k0_t24_loop i).trips) : Fin 3 → Nat :=
  let c3_522 : Index := 3#32
  let c0_i32_364 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v479 : BitVec 32 := Scalar.subi v20 c0_i32_364
  let c1_i32_365 : BitVec 32 := 1#32
  let v481 : BitVec 32 := Scalar.divsi v479 c1_i32_365
  let v482 : BitVec 32 := Scalar.muli v481 c1_i32_365
  let v483 : BitVec 32 := Scalar.addi c0_i32_364 v482
  let c1_i32_367 : BitVec 32 := 1#32
  let arg16 : BitVec 32 := Scf.iv v483 c1_i32_367 k0_t24
  let c256_i32_476 : BitVec 32 := 256#32
  let v625 : BitVec 32 := Scalar.muli arg16 c256_i32_476
  let v626 : BitVec 32 := v625
  let v756 : Index := Scalar.indexCast v626
  let c0_523 : Index := 0#32
  ![3, v756.toNat, 0]
@[reducible] def k0_t25_loop (i : grid0.Coords) : Scf.Loop 32 :=
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_382 : BitVec 32 := 1#32
  ⟨c0_i32_380, v506, c1_i32_382⟩
def k0_mult15 (i : grid0.Coords) (k0_t25 : Fin (k0_t25_loop i).trips) : BitVec 32 :=
  let c0_i32_380 : BitVec 32 := 0#32
  let c1_i32_382 : BitVec 32 := 1#32
  let arg16 : BitVec 32 := Scf.iv c0_i32_380 c1_i32_382 k0_t25
  let c256_i32_476 : BitVec 32 := 256#32
  let v625 : BitVec 32 := Scalar.muli arg16 c256_i32_476
  v625
def k0_off73 (i : grid0.Coords) (k0_t25 : Fin (k0_t25_loop i).trips) : Fin 3 → Nat :=
  let c0_477 : Index := 0#32
  let c0_i32_380 : BitVec 32 := 0#32
  let c1_i32_382 : BitVec 32 := 1#32
  let arg16 : BitVec 32 := Scf.iv c0_i32_380 c1_i32_382 k0_t25
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off74 (i : grid0.Coords) (k0_t25 : Fin (k0_t25_loop i).trips) : Fin 4 → Nat :=
  let c0_482 : Index := 0#32
  let c0_i32_380 : BitVec 32 := 0#32
  let c1_i32_382 : BitVec 32 := 1#32
  let arg16 : BitVec 32 := Scf.iv c0_i32_380 c1_i32_382 k0_t25
  let v635 : Index := Scalar.indexCast arg16
  let c0_483 : Index := 0#32
  let c0_484 : Index := 0#32
  ![0, v635.toNat, 0, 0]
def k0_off75 (i : grid0.Coords) (k0_t25 : Fin (k0_t25_loop i).trips) : Fin 3 → Nat :=
  let c1_490 : Index := 1#32
  let c0_i32_380 : BitVec 32 := 0#32
  let c1_i32_382 : BitVec 32 := 1#32
  let arg16 : BitVec 32 := Scf.iv c0_i32_380 c1_i32_382 k0_t25
  let c256_i32_476 : BitVec 32 := 256#32
  let v625 : BitVec 32 := Scalar.muli arg16 c256_i32_476
  let v626 : BitVec 32 := v625
  let v647 : Index := Scalar.indexCast v626
  let c0_491 : Index := 0#32
  ![1, v647.toNat, 0]
def k0_off76 (i : grid0.Coords) (k0_t25 : Fin (k0_t25_loop i).trips) : Fin 4 → Nat :=
  let c1_495 : Index := 1#32
  let c0_i32_380 : BitVec 32 := 0#32
  let c1_i32_382 : BitVec 32 := 1#32
  let arg16 : BitVec 32 := Scf.iv c0_i32_380 c1_i32_382 k0_t25
  let v655 : Index := Scalar.indexCast arg16
  let c0_496 : Index := 0#32
  let c0_497 : Index := 0#32
  ![1, v655.toNat, 0, 0]
def k0_off77 (i : grid0.Coords) (k0_t25 : Fin (k0_t25_loop i).trips) : Fin 3 → Nat :=
  let c2_503 : Index := 2#32
  let c0_i32_380 : BitVec 32 := 0#32
  let c1_i32_382 : BitVec 32 := 1#32
  let arg16 : BitVec 32 := Scf.iv c0_i32_380 c1_i32_382 k0_t25
  let c256_i32_476 : BitVec 32 := 256#32
  let v625 : BitVec 32 := Scalar.muli arg16 c256_i32_476
  let v626 : BitVec 32 := v625
  let v667 : Index := Scalar.indexCast v626
  let c0_504 : Index := 0#32
  ![2, v667.toNat, 0]
def k0_off78 (i : grid0.Coords) (k0_t25 : Fin (k0_t25_loop i).trips) : Fin 4 → Nat :=
  let c2_508 : Index := 2#32
  let c0_i32_380 : BitVec 32 := 0#32
  let c1_i32_382 : BitVec 32 := 1#32
  let arg16 : BitVec 32 := Scf.iv c0_i32_380 c1_i32_382 k0_t25
  let v675 : Index := Scalar.indexCast arg16
  let c0_509 : Index := 0#32
  let c0_510 : Index := 0#32
  ![2, v675.toNat, 0, 0]
def k0_off79 (i : grid0.Coords) (k0_t25 : Fin (k0_t25_loop i).trips) : Fin 3 → Nat :=
  let c3_516 : Index := 3#32
  let c0_i32_380 : BitVec 32 := 0#32
  let c1_i32_382 : BitVec 32 := 1#32
  let arg16 : BitVec 32 := Scf.iv c0_i32_380 c1_i32_382 k0_t25
  let c256_i32_476 : BitVec 32 := 256#32
  let v625 : BitVec 32 := Scalar.muli arg16 c256_i32_476
  let v626 : BitVec 32 := v625
  let v687 : Index := Scalar.indexCast v626
  let c0_517 : Index := 0#32
  ![3, v687.toNat, 0]
def k0_off80 (i : grid0.Coords) (k0_t25 : Fin (k0_t25_loop i).trips) : Fin 4 → Nat :=
  let c3_521 : Index := 3#32
  let c0_i32_380 : BitVec 32 := 0#32
  let c1_i32_382 : BitVec 32 := 1#32
  let arg16 : BitVec 32 := Scf.iv c0_i32_380 c1_i32_382 k0_t25
  let v695 : Index := Scalar.indexCast arg16
  let c0_522 : Index := 0#32
  let c0_523 : Index := 0#32
  ![3, v695.toNat, 0, 0]
@[reducible] def k0_t26_loop (i : grid0.Coords) : Scf.Loop 32 :=
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let v503 : BitVec 32 := Scalar.addi c0_i32_380 v502
  let c1_i32_383 : BitVec 32 := 1#32
  ⟨v506, v503, c1_i32_383⟩
def k0_mult16 (i : grid0.Coords) (k0_t26 : Fin (k0_t26_loop i).trips) : BitVec 32 :=
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let c256_i32_476 : BitVec 32 := 256#32
  let v625 : BitVec 32 := Scalar.muli arg16 c256_i32_476
  v625
def k0_off81 (i : grid0.Coords) (k0_t26 : Fin (k0_t26_loop i).trips) : Fin 3 → Nat :=
  let c0_477 : Index := 0#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let c256_i32_476 : BitVec 32 := 256#32
  let v625 : BitVec 32 := Scalar.muli arg16 c256_i32_476
  let v626 : BitVec 32 := v625
  let v627 : Index := Scalar.indexCast v626
  let c0_478 : Index := 0#32
  ![0, v627.toNat, 0]
def k0_off82 (i : grid0.Coords) (k0_t26 : Fin (k0_t26_loop i).trips) : Fin 4 → Nat :=
  let c0_482 : Index := 0#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let v635 : Index := Scalar.indexCast arg16
  let c0_483 : Index := 0#32
  let c0_484 : Index := 0#32
  ![0, v635.toNat, 0, 0]
def k0_off83 (i : grid0.Coords) (k0_t26 : Fin (k0_t26_loop i).trips) : Fin 3 → Nat :=
  let c1_490 : Index := 1#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let c256_i32_476 : BitVec 32 := 256#32
  let v625 : BitVec 32 := Scalar.muli arg16 c256_i32_476
  let v626 : BitVec 32 := v625
  let v647 : Index := Scalar.indexCast v626
  let c0_491 : Index := 0#32
  ![1, v647.toNat, 0]
def k0_off84 (i : grid0.Coords) (k0_t26 : Fin (k0_t26_loop i).trips) : Fin 4 → Nat :=
  let c1_495 : Index := 1#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let v655 : Index := Scalar.indexCast arg16
  let c0_496 : Index := 0#32
  let c0_497 : Index := 0#32
  ![1, v655.toNat, 0, 0]
def k0_off85 (i : grid0.Coords) (k0_t26 : Fin (k0_t26_loop i).trips) : Fin 3 → Nat :=
  let c2_503 : Index := 2#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let c256_i32_476 : BitVec 32 := 256#32
  let v625 : BitVec 32 := Scalar.muli arg16 c256_i32_476
  let v626 : BitVec 32 := v625
  let v667 : Index := Scalar.indexCast v626
  let c0_504 : Index := 0#32
  ![2, v667.toNat, 0]
def k0_off86 (i : grid0.Coords) (k0_t26 : Fin (k0_t26_loop i).trips) : Fin 4 → Nat :=
  let c2_508 : Index := 2#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let v675 : Index := Scalar.indexCast arg16
  let c0_509 : Index := 0#32
  let c0_510 : Index := 0#32
  ![2, v675.toNat, 0, 0]
def k0_off87 (i : grid0.Coords) (k0_t26 : Fin (k0_t26_loop i).trips) : Fin 3 → Nat :=
  let c3_516 : Index := 3#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let c256_i32_476 : BitVec 32 := 256#32
  let v625 : BitVec 32 := Scalar.muli arg16 c256_i32_476
  let v626 : BitVec 32 := v625
  let v687 : Index := Scalar.indexCast v626
  let c0_517 : Index := 0#32
  ![3, v687.toNat, 0]
def k0_off88 (i : grid0.Coords) (k0_t26 : Fin (k0_t26_loop i).trips) : Fin 4 → Nat :=
  let c3_521 : Index := 3#32
  let c0_i32_380 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v502 : BitVec 32 := Scalar.subi v20 c0_i32_380
  let c1_i32_381 : BitVec 32 := 1#32
  let v504 : BitVec 32 := Scalar.divsi v502 c1_i32_381
  let v505 : BitVec 32 := Scalar.muli v504 c1_i32_381
  let v506 : BitVec 32 := Scalar.addi c0_i32_380 v505
  let c1_i32_383 : BitVec 32 := 1#32
  let arg16 : BitVec 32 := Scf.iv v506 c1_i32_383 k0_t26
  let v695 : Index := Scalar.indexCast arg16
  let c0_522 : Index := 0#32
  let c0_523 : Index := 0#32
  ![3, v695.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x8x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S8x2048x1024 : Shape := ⟨3, ![8, 2048, 1024]⟩
abbrev S8x2048x256 : Shape := ⟨3, ![8, 2048, 256]⟩
abbrev S1024x1024 : Shape := ⟨2, ![1024, 1024]⟩
abbrev S256x1024 : Shape := ⟨2, ![256, 1024]⟩
abbrev S1024 : Shape := ⟨1, ![1024]⟩
abbrev S16384x1024 : Shape := ⟨2, ![16384, 1024]⟩
abbrev S16384x256 : Shape := ⟨2, ![16384, 256]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S16384x256, .f32⟩
  | .hbm, ⟨9, _⟩ => ⟨S1024x1024, .bf16⟩
  | .hbm, ⟨10, _⟩ => ⟨S256x1024, .bf16⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S8x2048x256 : Shape := ⟨3, ![8, 2048, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x256, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S16384x1024 : Shape := ⟨2, ![16384, 1024]⟩
abbrev S16384x512 : Shape := ⟨2, ![16384, 512]⟩
abbrev S1x1024 : Shape := ⟨2, ![1, 1024]⟩
abbrev S1024x16384 : Shape := ⟨2, ![1024, 16384]⟩
abbrev S8x128x16384 : Shape := ⟨3, ![8, 128, 16384]⟩
abbrev S512x1024 : Shape := ⟨2, ![512, 1024]⟩
abbrev S512x512 : Shape := ⟨2, ![512, 512]⟩
abbrev S1024x512 : Shape := ⟨2, ![1024, 512]⟩
abbrev S8x128x512 : Shape := ⟨3, ![8, 128, 512]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 20
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x128x128, .f32⟩
  | .hbm, ⟨7, _⟩ => ⟨S8x128x128, .f32⟩
  | .hbm, ⟨8, _⟩ => ⟨S16384x1024, .f32⟩
  | .hbm, ⟨9, _⟩ => ⟨S16384x512, .bf16⟩
  | .hbm, ⟨10, _⟩ => ⟨S16384x512, .bf16⟩
  | .hbm, ⟨11, _⟩ => ⟨S1024x1024, .bf16⟩
  | .hbm, ⟨12, _⟩ => ⟨S1024x2048, .bf16⟩
  | .hbm, ⟨13, _⟩ => ⟨S8x128x128, .bf16⟩
  | .hbm, ⟨14, _⟩ => ⟨S8x128x128, .bf16⟩
  | .hbm, ⟨15, _⟩ => ⟨S1x1024, .f32⟩
  | .hbm, ⟨16, _⟩ => ⟨S16384x1024, .f32⟩
  | .hbm, ⟨17, _⟩ => ⟨S1024x16384, .bf16⟩
  | .hbm, ⟨18, _⟩ => ⟨S8x128x16384, .f32⟩
  | .hbm, ⟨19, _⟩ => ⟨S8x128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S8x128x128, .bf16⟩
  | .local _ .vmem, ⟨10, _⟩ => ⟨S8x128x128, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | .local _ .vmem, ⟨14, _⟩ => ⟨S1024x512, .bf16⟩
  | .local _ .vmem, ⟨15, _⟩ => ⟨S8x128x512, .f32⟩
  | .local _ .vmem, ⟨16, _⟩ => ⟨S8x128x512, .f32⟩
  | .local _ .vmem, ⟨17, _⟩ => ⟨S8x128x512, .f32⟩
  | .local _ .vmem, ⟨18, _⟩ => ⟨S8x128x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x2048x1024 : Shape := ⟨3, ![8, 2048, 1024]⟩
abbrev S8x2048x512 : Shape := ⟨3, ![8, 2048, 512]⟩
abbrev S1024x1024 : Shape := ⟨2, ![1024, 1024]⟩
abbrev S1024 : Shape := ⟨1, ![1024]⟩
abbrev S1024x2048 : Shape := ⟨2, ![1024, 2048]⟩
abbrev S8x128x128 : Shape := ⟨3, ![8, 128, 128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x8x2x128 : Shape := ⟨5, ![8, 2048, 8, 2, 128]⟩
abbrev S8x2048x8x1x128 : Shape := ⟨5, ![8, 2048, 8, 1, 128]⟩
abbrev S8x2048x8x128 : Shape := ⟨4, ![8, 2048, 8, 128]⟩
abbrev S8x128x8x2048 : Shape := ⟨4, ![8, 128, 8, 2048]⟩
abbrev S16384x1024 : Shape := ⟨2, ![16384, 1024]⟩
abbrev S1024x16384 : Shape := ⟨2, ![1024, 16384]⟩
abbrev S16384x8x128 : Shape := ⟨3, ![16384, 8, 128]⟩
abbrev S8x128x16384 : Shape := ⟨3, ![8, 128, 16384]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x128x128, .f32⟩
  | .hbm, ⟨7, _⟩ => ⟨S8x128x128, .f32⟩
  | .hbm, ⟨8, _⟩ => ⟨S8x2048x1024, .bf16⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x2048, .f32⟩
  | .hbm, ⟨29, _⟩ => ⟨S8x2048x8x2x128, .f32⟩
  | .hbm, ⟨30, _⟩ => ⟨S8x2048x8x1x128, .f32⟩
  | .hbm, ⟨31, _⟩ => ⟨S8x2048x8x128, .f32⟩
  | .hbm, ⟨32, _⟩ => ⟨S8x128x8x2048, .f32⟩
  | .hbm, ⟨33, _⟩ => ⟨S8x2048x8x128, .f32⟩
  | .hbm, ⟨34, _⟩ => ⟨S8x2048x8x1x128, .f32⟩
  | .hbm, ⟨35, _⟩ => ⟨S8x2048x8x128, .f32⟩
  | .hbm, ⟨36, _⟩ => ⟨S8x128x8x2048, .f32⟩
  | .hbm, ⟨37, _⟩ => ⟨S8x2048x8x128, .f32⟩
  | .hbm, ⟨38, _⟩ => ⟨S16384x1024, .f32⟩
  | .hbm, ⟨39, _⟩ => ⟨S16384x1024, .f32⟩
  | .hbm, ⟨40, _⟩ => ⟨S1024x16384, .f32⟩
  | .hbm, ⟨41, _⟩ => ⟨S1024x16384, .bf16⟩
  | .hbm, ⟨42, _⟩ => ⟨S16384x8x128, .f32⟩
  | .hbm, ⟨43, _⟩ => ⟨S8x128x16384, .f32⟩
  | .hbm, ⟨44, _⟩ => ⟨S16384x8x128, .f32⟩
  | .hbm, ⟨45, _⟩ => ⟨S8x128x16384, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048 : Shape := ⟨2, ![8, 2048]⟩
abbrev S1024 : Shape := ⟨1, ![1024]⟩
abbrev S1024x2280 : Shape := ⟨2, ![1024, 2280]⟩
abbrev S4x128x96 : Shape := ⟨3, ![4, 128, 96]⟩
abbrev S128 : Shape := ⟨1, ![128]⟩
abbrev S1024x512 : Shape := ⟨2, ![1024, 512]⟩
abbrev S1024x128 : Shape := ⟨2, ![1024, 128]⟩
abbrev S1024x32 : Shape := ⟨2, ![1024, 32]⟩
abbrev S1024x64 : Shape := ⟨2, ![1024, 64]⟩
abbrev S1024x8 : Shape := ⟨2, ![1024, 8]⟩
abbrev S1024x16 : Shape := ⟨2, ![1024, 16]⟩
abbrev S1024x96 : Shape := ⟨2, ![1024, 96]⟩
abbrev S_ : Shape := ⟨0, ![]⟩
abbrev S1024x48 : Shape := ⟨2, ![1024, 48]⟩
abbrev S1024x384 : Shape := ⟨2, ![1024, 384]⟩
abbrev S1x1024x1x32 : Shape := ⟨4, ![1, 1024, 1, 32]⟩
abbrev S1x1024x4x32 : Shape := ⟨4, ![1, 1024, 4, 32]⟩
abbrev S1x1024x1x64 : Shape := ⟨4, ![1, 1024, 1, 64]⟩
abbrev S1x1024x2x64 : Shape := ⟨4, ![1, 1024, 2, 64]⟩
abbrev S1024x120 : Shape := ⟨2, ![1024, 120]⟩
abbrev S1024x3456 : Shape := ⟨2, ![1024, 3456]⟩
abbrev S384x512 : Shape := ⟨2, ![384, 512]⟩
abbrev S1x128x96 : Shape := ⟨3, ![1, 128, 96]⟩
abbrev S128x96 : Shape := ⟨2, ![128, 96]⟩
abbrev S96x128 : Shape := ⟨2, ![96, 128]⟩
abbrev S1 : Shape := ⟨1, ![1]⟩
abbrev S2 : Shape := ⟨1, ![2]⟩
abbrev S16384x1024 : Shape := ⟨2, ![16384, 1024]⟩
abbrev S16384x1 : Shape := ⟨2, ![16384, 1]⟩
abbrev S16 : Shape := ⟨1, ![16]⟩
abbrev S8 : Shape := ⟨1, ![8]⟩
abbrev S1x16 : Shape := ⟨2, ![1, 16]⟩
abbrev S8x16 : Shape := ⟨2, ![8, 16]⟩
abbrev S1x128 : Shape := ⟨2, ![1, 128]⟩
abbrev S48 : Shape := ⟨1, ![48]⟩
abbrev S64 : Shape := ⟨1, ![64]⟩
abbrev S1x64 : Shape := ⟨2, ![1, 64]⟩
abbrev S2x64 : Shape := ⟨2, ![2, 64]⟩
abbrev S1x1024 : Shape := ⟨2, ![1, 1024]⟩
abbrev S4x16384x256 : Shape := ⟨3, ![4, 16384, 256]⟩
abbrev S16384x256 : Shape := ⟨2, ![16384, 256]⟩
abbrev S16384x512 : Shape := ⟨2, ![16384, 512]⟩
abbrev S16384x128 : Shape := ⟨2, ![16384, 128]⟩
abbrev S512x1024 : Shape := ⟨2, ![512, 1024]⟩
abbrev S512x1 : Shape := ⟨2, ![512, 1]⟩
abbrev S4x512x256 : Shape := ⟨3, ![4, 512, 256]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x3456 : Shape := ⟨2, ![512, 3456]⟩
abbrev S512x384 : Shape := ⟨2, ![512, 384]⟩
abbrev S1x512x128 : Shape := ⟨3, ![1, 512, 128]⟩

abbrev nBuf : Space → Nat
  | .hbm => 225
  | .vmem => 24
  | .smem => 0
  | _ => 0

abbrev hbmTy0_0 (i : Nat) : BufTy := match i % 128 with
  | 0 => ⟨S8x2048x1024, .f32⟩
  | 1 => ⟨S8x2048, .i32⟩
  | 2 => ⟨S1024, .f32⟩
  | 3 => ⟨S1024x2280, .f32⟩
  | 4 => ⟨S4x128x96, .f32⟩
  | 5 => ⟨S128, .f32⟩
  | 6 => ⟨S1024x512, .f32⟩
  | 7 => ⟨S1024x128, .f32⟩
  | 8 => ⟨S1024x32, .f32⟩
  | 9 => ⟨S1024x512, .f32⟩
  | 10 => ⟨S1024x64, .f32⟩
  | 11 => ⟨S1024x8, .f32⟩
  | 12 => ⟨S1024x512, .f32⟩
  | 13 => ⟨S1024x512, .f32⟩
  | 14 => ⟨S1024x128, .f32⟩
  | 15 => ⟨S1024x32, .f32⟩
  | 16 => ⟨S1024x32, .f32⟩
  | 17 => ⟨S1024x16, .f32⟩
  | 18 => ⟨S1024x16, .f32⟩
  | 19 => ⟨S1024x16, .f32⟩
  | 20 => ⟨S1024x32, .f32⟩
  | 21 => ⟨S1024x96, .f32⟩
  | 22 => ⟨S1024x128, .f32⟩
  | 23 => ⟨S1024x32, .f32⟩
  | 24 => ⟨S1024x32, .f32⟩
  | 25 => ⟨S1024x16, .f32⟩
  | 26 => ⟨S1024x16, .f32⟩
  | 27 => ⟨S1024x16, .f32⟩
  | 28 => ⟨S1024x32, .f32⟩
  | 29 => ⟨S1024x96, .f32⟩
  | 30 => ⟨S1024x128, .f32⟩
  | 31 => ⟨S1024x32, .f32⟩
  | 32 => ⟨S1024x32, .f32⟩
  | 33 => ⟨S1024x16, .f32⟩
  | 34 => ⟨S1024x16, .f32⟩
  | 35 => ⟨S1024x16, .f32⟩
  | 36 => ⟨S1024x32, .f32⟩
  | 37 => ⟨S1024x96, .f32⟩
  | 38 => ⟨S1024x128, .f32⟩
  | 39 => ⟨S1024x32, .f32⟩
  | 40 => ⟨S1024x32, .f32⟩
  | 41 => ⟨S1024x16, .f32⟩
  | 42 => ⟨S1024x16, .f32⟩
  | 43 => ⟨S1024x16, .f32⟩
  | 44 => ⟨S1024x32, .f32⟩
  | 45 => ⟨S1024x96, .f32⟩
  | 46 => ⟨S_, .f32⟩
  | 47 => ⟨S1024x48, .f32⟩
  | 48 => ⟨S1024x64, .f32⟩
  | 49 => ⟨S1024x16, .f32⟩
  | 50 => ⟨S1024x8, .f32⟩
  | 51 => ⟨S1024x8, .f32⟩
  | 52 => ⟨S1024x8, .f32⟩
  | 53 => ⟨S1024x16, .f32⟩
  | 54 => ⟨S1024x64, .f32⟩
  | 55 => ⟨S1024x64, .f32⟩
  | 56 => ⟨S1024x16, .f32⟩
  | 57 => ⟨S1024x8, .f32⟩
  | 58 => ⟨S1024x8, .f32⟩
  | 59 => ⟨S1024x8, .f32⟩
  | 60 => ⟨S1024x16, .f32⟩
  | 61 => ⟨S1024x64, .f32⟩
  | 62 => ⟨S1024x64, .f32⟩
  | 63 => ⟨S1024x16, .f32⟩
  | 64 => ⟨S1024x8, .f32⟩
  | 65 => ⟨S1024x8, .f32⟩
  | 66 => ⟨S1024x8, .f32⟩
  | 67 => ⟨S1024x16, .f32⟩
  | 68 => ⟨S1024x64, .f32⟩
  | 69 => ⟨S1024x64, .f32⟩
  | 70 => ⟨S1024x16, .f32⟩
  | 71 => ⟨S1024x8, .f32⟩
  | 72 => ⟨S1024x8, .f32⟩
  | 73 => ⟨S1024x8, .f32⟩
  | 74 => ⟨S1024x16, .f32⟩
  | 75 => ⟨S1024x64, .f32⟩
  | 76 => ⟨S1024x64, .f32⟩
  | 77 => ⟨S1024x16, .f32⟩
  | 78 => ⟨S1024x8, .f32⟩
  | 79 => ⟨S1024x8, .f32⟩
  | 80 => ⟨S1024x8, .f32⟩
  | 81 => ⟨S1024x16, .f32⟩
  | 82 => ⟨S1024x64, .f32⟩
  | 83 => ⟨S1024x64, .f32⟩
  | 84 => ⟨S1024x16, .f32⟩
  | 85 => ⟨S1024x8, .f32⟩
  | 86 => ⟨S1024x8, .f32⟩
  | 87 => ⟨S1024x8, .f32⟩
  | 88 => ⟨S1024x16, .f32⟩
  | 89 => ⟨S1024x64, .f32⟩
  | 90 => ⟨S1024x64, .f32⟩
  | 91 => ⟨S1024x16, .f32⟩
  | 92 => ⟨S1024x8, .f32⟩
  | 93 => ⟨S1024x8, .f32⟩
  | 94 => ⟨S1024x8, .f32⟩
  | 95 => ⟨S1024x16, .f32⟩
  | 96 => ⟨S1024x64, .f32⟩
  | 97 => ⟨S1024x64, .f32⟩
  | 98 => ⟨S1024x16, .f32⟩
  | 99 => ⟨S1024x8, .f32⟩
  | 100 => ⟨S1024x8, .f32⟩
  | 101 => ⟨S1024x8, .f32⟩
  | 102 => ⟨S1024x16, .f32⟩
  | 103 => ⟨S1024x64, .f32⟩
  | 104 => ⟨S1024x16, .f32⟩
  | 105 => ⟨S1024x8, .f32⟩
  | 106 => ⟨S1024x8, .f32⟩
  | 107 => ⟨S1024x8, .f32⟩
  | 108 => ⟨S1024x16, .f32⟩
  | 109 => ⟨S1024x64, .f32⟩
  | 110 => ⟨S1024x384, .f32⟩
  | 111 => ⟨S1024x128, .f32⟩
  | 112 => ⟨S1024x128, .f32⟩
  | 113 => ⟨S1x1024x1x32, .f32⟩
  | 114 => ⟨S1x1024x4x32, .f32⟩
  | 115 => ⟨S1024x128, .f32⟩
  | 116 => ⟨S1024x16, .f32⟩
  | 117 => ⟨S1024x16, .f32⟩
  | 118 => ⟨S1024x16, .f32⟩
  | 119 => ⟨S1024x32, .f32⟩
  | 120 => ⟨S1x1024x1x32, .f32⟩
  | 121 => ⟨S1x1024x4x32, .f32⟩
  | 122 => ⟨S1024x128, .f32⟩
  | 123 => ⟨S1024x512, .f32⟩
  | 124 => ⟨S1x1024x1x64, .f32⟩
  | 125 => ⟨S1x1024x2x64, .f32⟩
  | 126 => ⟨S1024x128, .f32⟩
  | 127 => ⟨S1x1024x1x64, .f32⟩
  | _ => ⟨S8x2048x1024, .f32⟩

abbrev hbmTy0_1 (i : Nat) : BufTy := match i % 128 with
  | 0 => ⟨S1x1024x2x64, .f32⟩
  | 1 => ⟨S1024x128, .f32⟩
  | 2 => ⟨S_, .f32⟩
  | 3 => ⟨S1024x120, .f32⟩
  | 4 => ⟨S1024x128, .f32⟩
  | 5 => ⟨S1024x3456, .f32⟩
  | 6 => ⟨S1024x3456, .bf16⟩
  | 7 => ⟨S_, .f32⟩
  | 8 => ⟨S384x512, .f32⟩
  | 9 => ⟨S1x128x96, .f32⟩
  | 10 => ⟨S128x96, .f32⟩
  | 11 => ⟨S96x128, .f32⟩
  | 12 => ⟨S_, .i32⟩
  | 13 => ⟨S1, .i32⟩
  | 14 => ⟨S_, .i32⟩
  | 15 => ⟨S1, .i32⟩
  | 16 => ⟨S2, .i32⟩
  | 17 => ⟨S384x512, .f32⟩
  | 18 => ⟨S1x128x96, .f32⟩
  | 19 => ⟨S128x96, .f32⟩
  | 20 => ⟨S96x128, .f32⟩
  | 21 => ⟨S_, .i32⟩
  | 22 => ⟨S1, .i32⟩
  | 23 => ⟨S_, .i32⟩
  | 24 => ⟨S1, .i32⟩
  | 25 => ⟨S2, .i32⟩
  | 26 => ⟨S384x512, .f32⟩
  | 27 => ⟨S1x128x96, .f32⟩
  | 28 => ⟨S128x96, .f32⟩
  | 29 => ⟨S96x128, .f32⟩
  | 30 => ⟨S_, .i32⟩
  | 31 => ⟨S1, .i32⟩
  | 32 => ⟨S_, .i32⟩
  | 33 => ⟨S1, .i32⟩
  | 34 => ⟨S2, .i32⟩
  | 35 => ⟨S384x512, .f32⟩
  | 36 => ⟨S1x128x96, .f32⟩
  | 37 => ⟨S128x96, .f32⟩
  | 38 => ⟨S96x128, .f32⟩
  | 39 => ⟨S_, .i32⟩
  | 40 => ⟨S1, .i32⟩
  | 41 => ⟨S_, .i32⟩
  | 42 => ⟨S1, .i32⟩
  | 43 => ⟨S2, .i32⟩
  | 44 => ⟨S384x512, .f32⟩
  | 45 => ⟨S384x512, .bf16⟩
  | 46 => ⟨S16384x1024, .f32⟩
  | 47 => ⟨S8x2048, .f32⟩
  | 48 => ⟨S16384x1, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S1x16, .f32⟩
  | 78 => ⟨S8x16, .f32⟩
  | 79 => ⟨S128, .f32⟩
  | 80 => ⟨S1x128, .f32⟩
  | 81 => ⟨S_, .f32⟩
  | 82 => ⟨S48, .f32⟩
  | 83 => ⟨S64, .f32⟩
  | 84 => ⟨S1x64, .f32⟩
  | 85 => ⟨S2x64, .f32⟩
  | 86 => ⟨S128, .f32⟩
  | 87 => ⟨S1x128, .f32⟩
  | 88 => ⟨S1x1024, .f32⟩
  | 89 => ⟨S1x128, .f32⟩
  | 90 => ⟨S4x16384x256, .bf16⟩
  | 91 => ⟨S16384x256, .bf16⟩
  | 92 => ⟨S16384x512, .bf16⟩
  | 93 => ⟨S16384x128, .bf16⟩
  | 94 => ⟨S16384x128, .f32⟩
  | 95 => ⟨S16384x512, .f32⟩
  | 96 => ⟨S16384x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x1024, .f32⟩
  | .local _ .vmem, ⟨5, _⟩ => ⟨S1x128, .f32⟩
  | .local _ .vmem, ⟨6, _⟩ => ⟨S1x128, .f32⟩
  | .local _ .vmem, ⟨7, _⟩ => ⟨S1024x3456, .bf16⟩
  | .local _ .vmem, ⟨8, _⟩ => ⟨S384x512, .bf16⟩
  | .local _ .vmem, ⟨9, _⟩ => ⟨S1x128, .f32⟩
  | .local _ .vmem, ⟨10, _⟩ => ⟨S4x512x256, .bf16⟩
  | .local _ .vmem, ⟨11, _⟩ => ⟨S4x512x256, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_cst_0 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_cst_1 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_c : Ref sig .tc := ⟨.hbm, 140, rfl⟩
abbrev main_v131 : Ref sig .tc := ⟨.hbm, 141, rfl⟩
abbrev main_c_2 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_c_3 : Ref sig .tc := ⟨.hbm, 149, rfl⟩
abbrev main_v138 : Ref sig .tc := ⟨.hbm, 150, rfl⟩
abbrev main_c_4 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_c_5 : Ref sig .tc := ⟨.hbm, 158, rfl⟩
abbrev main_v145 : Ref sig .tc := ⟨.hbm, 159, rfl⟩
abbrev main_c_6 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_c_7 : Ref sig .tc := ⟨.hbm, 167, rfl⟩
abbrev main_v152 : Ref sig .tc := ⟨.hbm, 168, rfl⟩
abbrev main_c_8 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_cst_9 : Ref sig .tc := ⟨.hbm, 178, rfl⟩
abbrev main_v161 : Ref sig .tc := ⟨.hbm, 179, rfl⟩
abbrev main_v162 : Ref sig .tc := ⟨.hbm, 180, rfl⟩
abbrev main_cst_10 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_cst_11 : Ref sig .tc := ⟨.hbm, 185, rfl⟩
abbrev main_v166 : Ref sig .tc := ⟨.hbm, 186, rfl⟩
abbrev main_v167 : Ref sig .tc := ⟨.hbm, 187, rfl⟩
abbrev main_cst_12 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_cst_13 : Ref sig .tc := ⟨.hbm, 192, rfl⟩
abbrev main_v171 : Ref sig .tc := ⟨.hbm, 193, rfl⟩
abbrev main_v172 : Ref sig .tc := ⟨.hbm, 194, rfl⟩
abbrev main_cst_14 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_cst_15 : Ref sig .tc := ⟨.hbm, 199, rfl⟩
abbrev main_v176 : Ref sig .tc := ⟨.hbm, 200, rfl⟩
abbrev main_v177 : Ref sig .tc := ⟨.hbm, 201, rfl⟩
abbrev main_cst_16 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_cst_17 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192_0 : Ref sig .tc := ⟨.hbm, 218, rfl⟩
abbrev main_v192_1 : Ref sig .tc := ⟨.hbm, 219, rfl⟩
abbrev main_v192_2 : Ref sig .tc := ⟨.hbm, 220, rfl⟩
abbrev main_v192_3 : Ref sig .tc := ⟨.hbm, 221, rfl⟩
abbrev main_v192_4 : Ref sig .tc := ⟨.hbm, 222, rfl⟩
abbrev main_v192_5 : Ref sig .tc := ⟨.hbm, 223, rfl⟩
abbrev main_v192_6 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8x2048x1024 : Shape := ⟨3, ![8, 2048, 1024]⟩
abbrev S8x2048 : Shape := ⟨2, ![8, 2048]⟩
abbrev S1024 : Shape := ⟨1, ![1024]⟩
abbrev S1024x2280 : Shape := ⟨2, ![1024, 2280]⟩
abbrev S4x128x96 : Shape := ⟨3, ![4, 128, 96]⟩
abbrev S128 : Shape := ⟨1, ![128]⟩
abbrev S16 : Shape := ⟨1, ![16]⟩
abbrev S_ : Shape := ⟨0, ![]⟩
abbrev S8x2048x1 : Shape := ⟨3, ![8, 2048, 1]⟩
abbrev S1x1x16 : Shape := ⟨3, ![1, 1, 16]⟩
abbrev S8x2048x16 : Shape := ⟨3, ![8, 2048, 16]⟩
abbrev S8 : Shape := ⟨1, ![8]⟩
abbrev S1x1x8 : Shape := ⟨3, ![1, 1, 8]⟩
abbrev S8x2048x8 : Shape := ⟨3, ![8, 2048, 8]⟩
abbrev S1x1x1024 : Shape := ⟨3, ![1, 1, 1024]⟩
abbrev S8x2048x2280 : Shape := ⟨3, ![8, 2048, 2280]⟩
abbrev S8x2048x512 : Shape := ⟨3, ![8, 2048, 512]⟩
abbrev S8x2048x128 : Shape := ⟨3, ![8, 2048, 128]⟩
abbrev S8x2048x32 : Shape := ⟨3, ![8, 2048, 32]⟩
abbrev S8x2048x64 : Shape := ⟨3, ![8, 2048, 64]⟩
abbrev S8x2048x4x128 : Shape := ⟨4, ![8, 2048, 4, 128]⟩
abbrev S8x2048x4x32 : Shape := ⟨4, ![8, 2048, 4, 32]⟩
abbrev S8x2048x1x16 : Shape := ⟨4, ![8, 2048, 1, 16]⟩
abbrev S8x2048x4x16 : Shape := ⟨4, ![8, 2048, 4, 16]⟩
abbrev S8x2048x4x96 : Shape := ⟨4, ![8, 2048, 4, 96]⟩
abbrev S4x128x8x2048 : Shape := ⟨4, ![4, 128, 8, 2048]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x1x4x4x1 : Shape := ⟨5, ![1, 1, 4, 4, 1]⟩
abbrev S8x2048x4x1x32 : Shape := ⟨5, ![8, 2048, 4, 1, 32]⟩
abbrev S8x2048x4x4x32 : Shape := ⟨5, ![8, 2048, 4, 4, 32]⟩
abbrev S8x2048x4x256 : Shape := ⟨4, ![8, 2048, 4, 256]⟩
abbrev S1x1x128 : Shape := ⟨3, ![1, 1, 128]⟩
abbrev S1x8x1x2048x1x32 : Shape := ⟨6, ![1, 8, 1, 2048, 1, 32]⟩
abbrev S1x8x1x2048x4x32 : Shape := ⟨6, ![1, 8, 1, 2048, 4, 32]⟩
abbrev S8x2048x256 : Shape := ⟨3, ![8, 2048, 256]⟩
abbrev S8x2048x8x64 : Shape := ⟨4, ![8, 2048, 8, 64]⟩
abbrev S8x2048x1x8 : Shape := ⟨4, ![8, 2048, 1, 8]⟩
abbrev S8x2048x8x16 : Shape := ⟨4, ![8, 2048, 8, 16]⟩
abbrev S8x2048x8x8 : Shape := ⟨4, ![8, 2048, 8, 8]⟩
abbrev S8x2048x8x48 : Shape := ⟨4, ![8, 2048, 8, 48]⟩
abbrev S8x2048x48 : Shape := ⟨3, ![8, 2048, 48]⟩
abbrev S4x8x2048x256 : Shape := ⟨4, ![4, 8, 2048, 256]⟩
abbrev S4x16384x256 : Shape := ⟨3, ![4, 16384, 256]⟩
abbrev S16384x256 : Shape := ⟨2, ![16384, 256]⟩
abbrev S16384x512 : Shape := ⟨2, ![16384, 512]⟩
abbrev S1x8x1x2048x1x64 : Shape := ⟨6, ![1, 8, 1, 2048, 1, 64]⟩
abbrev S1x8x1x2048x2x64 : Shape := ⟨6, ![1, 8, 1, 2048, 2, 64]⟩
abbrev S16384x128 : Shape := ⟨2, ![16384, 128]⟩
abbrev S8x2048x120 : Shape := ⟨3, ![8, 2048, 120]⟩

abbrev nBuf : Space → Nat
  | .hbm => 193
  | .vmem => 0
  | .smem => 0
  | _ => 0

abbrev hbmTy0_0 (i : Nat) : BufTy := match i % 128 with
  | 0 => ⟨S8x2048x1024, .f32⟩
  | 1 => ⟨S8x2048, .i32⟩
  | 2 => ⟨S1024, .f32⟩
  | 3 => ⟨S1024x2280, .f32⟩
  | 4 => ⟨S4x128x96, .f32⟩
  | 5 => ⟨S128, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S8x2048, .f32⟩
  | 21 => ⟨S8x2048x1, .f32⟩
  | 22 => ⟨S1x1x16, .f32⟩
  | 23 => ⟨S8x2048x16, .f32⟩
  | 24 => ⟨S8x2048x16, .f32⟩
  | 25 => ⟨S8x2048x16, .f32⟩
  | 26 => ⟨S8x2048x16, .f32⟩
  | 27 => ⟨S8x2048x16, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8x2048, .f32⟩
  | 43 => ⟨S8x2048x1, .f32⟩
  | 44 => ⟨S1x1x8, .f32⟩
  | 45 => ⟨S8x2048x8, .f32⟩
  | 46 => ⟨S8x2048x8, .f32⟩
  | 47 => ⟨S8x2048x8, .f32⟩
  | 48 => ⟨S8x2048x8, .f32⟩
  | 49 => ⟨S8x2048x8, .f32⟩
  | 50 => ⟨S8x2048x1024, .f32⟩
  | 51 => ⟨S_, .f32⟩
  | 52 => ⟨S8x2048, .f32⟩
  | 53 => ⟨S8x2048x1, .f32⟩
  | 54 => ⟨S_, .f32⟩
  | 55 => ⟨S8x2048x1, .f32⟩
  | 56 => ⟨S8x2048x1, .f32⟩
  | 57 => ⟨S_, .f32⟩
  | 58 => ⟨S8x2048x1, .f32⟩
  | 59 => ⟨S8x2048x1, .f32⟩
  | 60 => ⟨S8x2048x1, .f32⟩
  | 61 => ⟨S8x2048x1024, .f32⟩
  | 62 => ⟨S8x2048x1024, .f32⟩
  | 63 => ⟨S1x1x1024, .f32⟩
  | 64 => ⟨S8x2048x1024, .f32⟩
  | 65 => ⟨S8x2048x1024, .f32⟩
  | 66 => ⟨S8x2048x2280, .f32⟩
  | 67 => ⟨S8x2048x512, .f32⟩
  | 68 => ⟨S8x2048x128, .f32⟩
  | 69 => ⟨S8x2048x32, .f32⟩
  | 70 => ⟨S8x2048x512, .f32⟩
  | 71 => ⟨S8x2048x64, .f32⟩
  | 72 => ⟨S8x2048x8, .f32⟩
  | 73 => ⟨S8x2048x512, .f32⟩
  | 74 => ⟨S8x2048x512, .f32⟩
  | 75 => ⟨S8x2048x4x128, .f32⟩
  | 76 => ⟨S8x2048x4x32, .f32⟩
  | 77 => ⟨S8x2048x1x16, .f32⟩
  | 78 => ⟨S8x2048x1x16, .f32⟩
  | 79 => ⟨S8x2048x4x16, .f32⟩
  | 80 => ⟨S8x2048x4x16, .f32⟩
  | 81 => ⟨S8x2048x4x16, .f32⟩
  | 82 => ⟨S8x2048x4x16, .f32⟩
  | 83 => ⟨S8x2048x4x16, .f32⟩
  | 84 => ⟨S8x2048x4x16, .f32⟩
  | 85 => ⟨S8x2048x4x16, .f32⟩
  | 86 => ⟨S8x2048x4x16, .f32⟩
  | 87 => ⟨S8x2048x4x16, .f32⟩
  | 88 => ⟨S8x2048x4x16, .f32⟩
  | 89 => ⟨S8x2048x4x16, .f32⟩
  | 90 => ⟨S8x2048x4x16, .f32⟩
  | 91 => ⟨S8x2048x4x32, .f32⟩
  | 92 => ⟨S8x2048x4x96, .f32⟩
  | 93 => ⟨S4x128x8x2048, .f32⟩
  | 94 => ⟨S8x2048x4x128, .f32⟩
  | 95 => ⟨S4, .i32⟩
  | 96 => ⟨S4x1, .i32⟩
  | 97 => ⟨S4, .i32⟩
  | 98 => ⟨S1x4, .i32⟩
  | 99 => ⟨S4x4, .i32⟩
  | 100 => ⟨S4x4, .i32⟩
  | 101 => ⟨S4x4, .i1⟩
  | 102 => ⟨S1x1x4x4x1, .i1⟩
  | 103 => ⟨S8x2048x4x1x32, .f32⟩
  | 104 => ⟨S_, .f32⟩
  | 105 => ⟨S_, .f32⟩
  | 106 => ⟨S8x2048x4x4x32, .i1⟩
  | 107 => ⟨S8x2048x4x4x32, .f32⟩
  | 108 => ⟨S8x2048x4x4x32, .f32⟩
  | 109 => ⟨S8x2048x4x4x32, .f32⟩
  | 110 => ⟨S8x2048x4x128, .f32⟩
  | 111 => ⟨S8x2048x4x256, .f32⟩
  | 112 => ⟨S8x2048x128, .f32⟩
  | 113 => ⟨S_, .f32⟩
  | 114 => ⟨S8x2048, .f32⟩
  | 115 => ⟨S8x2048x1, .f32⟩
  | 116 => ⟨S_, .f32⟩
  | 117 => ⟨S8x2048x1, .f32⟩
  | 118 => ⟨S8x2048x1, .f32⟩
  | 119 => ⟨S_, .f32⟩
  | 120 => ⟨S8x2048x1, .f32⟩
  | 121 => ⟨S8x2048x1, .f32⟩
  | 122 => ⟨S8x2048x1, .f32⟩
  | 123 => ⟨S8x2048x128, .f32⟩
  | 124 => ⟨S8x2048x128, .f32⟩
  | 125 => ⟨S1x1x128, .f32⟩
  | 126 => ⟨S8x2048x128, .f32⟩
  | 127 => ⟨S8x2048x128, .f32⟩
  | _ => ⟨S8x2048x1024, .f32⟩

abbrev hbmTy0_1 (i : Nat) : BufTy := match i % 128 with
  | 0 => ⟨S8x2048x16, .f32⟩
  | 1 => ⟨S8x2048x16, .f32⟩
  | 2 => ⟨S8x2048x16, .f32⟩
  | 3 => ⟨S8x2048x16, .f32⟩
  | 4 => ⟨S8x2048x16, .f32⟩
  | 5 => ⟨S8x2048x16, .f32⟩
  | 6 => ⟨S8x2048x16, .f32⟩
  | 7 => ⟨S8x2048x16, .f32⟩
  | 8 => ⟨S8x2048x32, .f32⟩
  | 9 => ⟨S1x8x1x2048x1x32, .f32⟩
  | 10 => ⟨S1x8x1x2048x4x32, .f32⟩
  | 11 => ⟨S8x2048x128, .f32⟩
  | 12 => ⟨S8x2048x256, .f32⟩
  | 13 => ⟨S8x2048x8x64, .f32⟩
  | 14 => ⟨S8x2048x1x8, .f32⟩
  | 15 => ⟨S8x2048x1x8, .f32⟩
  | 16 => ⟨S8x2048x8x16, .f32⟩
  | 17 => ⟨S8x2048x8x8, .f32⟩
  | 18 => ⟨S8x2048x8x8, .f32⟩
  | 19 => ⟨S8x2048x8x8, .f32⟩
  | 20 => ⟨S8x2048x8x8, .f32⟩
  | 21 => ⟨S8x2048x8x8, .f32⟩
  | 22 => ⟨S8x2048x8x8, .f32⟩
  | 23 => ⟨S8x2048x8x8, .f32⟩
  | 24 => ⟨S8x2048x8x8, .f32⟩
  | 25 => ⟨S8x2048x8x8, .f32⟩
  | 26 => ⟨S8x2048x8x8, .f32⟩
  | 27 => ⟨S8x2048x8x8, .f32⟩
  | 28 => ⟨S8x2048x8x8, .f32⟩
  | 29 => ⟨S8x2048x8x16, .f32⟩
  | 30 => ⟨S8x2048x8x48, .f32⟩
  | 31 => ⟨S8x2048x8x64, .f32⟩
  | 32 => ⟨S8x2048x16, .f32⟩
  | 33 => ⟨S8x2048x8, .f32⟩
  | 34 => ⟨S8x2048x8, .f32⟩
  | 35 => ⟨S8x2048x8, .f32⟩
  | 36 => ⟨S8x2048x8, .f32⟩
  | 37 => ⟨S8x2048x8, .f32⟩
  | 38 => ⟨S8x2048x8, .f32⟩
  | 39 => ⟨S8x2048x8, .f32⟩
  | 40 => ⟨S8x2048x8, .f32⟩
  | 41 => ⟨S8x2048x16, .f32⟩
  | 42 => ⟨S8x2048x48, .f32⟩
  | 43 => ⟨S8x2048x64, .f32⟩
  | 44 => ⟨S_, .f32⟩
  | 45 => ⟨S8x2048x8, .f32⟩
  | 46 => ⟨S8x2048x8, .f32⟩
  | 47 => ⟨S4x8x2048x256, .f32⟩
  | 48 => ⟨S4x16384x256, .f32⟩
  | 49 => ⟨S4x16384x256, .bf16⟩
  | 50 => ⟨S16384x256, .f32⟩
  | 51 => ⟨S16384x256, .bf16⟩
  | 52 => ⟨S16384x512, .f32⟩
  | 53 => ⟨S16384x512, .bf16⟩
  | 54 => ⟨S1x8x1x2048x1x64, .f32⟩
  | 55 => ⟨S1x8x1x2048x2x64, .f32⟩
  | 56 => ⟨S8x2048x128, .f32⟩
  | 57 => ⟨S16384x128, .f32⟩
  | 58 => ⟨S16384x128, .bf16⟩
  | 59 => ⟨S_, .f32⟩
  | 60 => ⟨S8x2048x120, .f32⟩
  | 61 => ⟨S8x2048x128, .f32⟩
  | 62 => ⟨S16384x128, .f32⟩
  | 63 => ⟨S16384x512, .f32⟩
  | 64 => ⟨S16384x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_10 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_cst_12 : Ref sig .tc := ⟨.hbm, 116, rfl⟩
abbrev main_v93 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_cst_14 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_cst_15 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩

abbrev nD : Nat := 1
abbrev τ : Topo := Topo.v7x

variable {F : FTy → Type} [FloatOps F]
-- ==== Proof.Keeps.lean ====
/-
  Programs that keep what they are given. `Keeps c R p` says that the program `p`, run by core `c`'s TensorCore from
  the resources `R`, cannot fault and gives `R` back whatever it returns. When `R` owns the buffers a program writes
  at SOME contents, `Keeps` holds of a program as soon as it holds of its parts, so that a long body is gone
  through statement by statement with nothing to remember between two statements.
-/
module

public import Idealize.ShloMosaic.Rules.Step
public import Idealize.ShloMosaic.Lib.Memref
public import Idealize.ShloMosaic.Lib.Scf
public import Idealize.ShloMosaic.Lib.Pipeline.Frame
public import Idealize.ShloMosaic.Lib.Tactic

@[expose] public section

noncomputable section

namespace Cert.Walk

open Idealize.ShloMosaic Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem

variable {nD : Nat} {τ : Topo} {sig : RefSig} {Val : EltTy → Type} {Λ : Labels}
variable {defs : Defs nD τ sig Val Λ} {𝒱 : Variants} {c : Dev nD} {α β : Type}

local notation "𝕄" => MT nD τ sig Unit Val ℕ (UR sig nD τ) ℕ

/-- From `R` the program runs to its end and gives `R` back, whatever it returns. -/
def Keeps (defs : Defs nD τ sig Val Λ) (𝒱 : Variants) (c : Dev nD) (R : sProp 𝕄) (p : Prog (TpuEff nD τ sig Val Λ .tc) α) : Prop :=
  R ⊢ wp frame (wpE defs 𝒱 (c : Thread nD τ) none) Set.univ p (fun _ => R)

variable {R P Q : sProp (MT nD τ sig Unit Val ℕ (UR sig nD τ) ℕ)}

/-- Returning a value keeps anything. -/
theorem Keeps.ret (a : α) : Keeps defs 𝒱 c R (.ret a) := by
  unfold Keeps; exact le_wp_ret _ _ _ a (fun _ => R)

/-- Returning a value keeps anything, in `do` notation. -/
theorem Keeps.pure (a : α) : Keeps defs 𝒱 c R (pure a) := Keeps.ret a

/-- One program and then another keep what both keep. -/
theorem Keeps.bind {p : Prog (TpuEff nD τ sig Val Λ .tc) α} {k : α → Prog (TpuEff nD τ sig Val Λ .tc) β}
    (hp : Keeps defs 𝒱 c R p) (hk : ∀ x, Keeps defs 𝒱 c R (k x)) : Keeps defs 𝒱 c R (p >>= k) := by
  unfold Keeps
  rw [wp_bind]
  exact hp.trans (wp_mono _ _ _ fun x => hk x)

/-- A loop keeps what each trip keeps. -/
theorem Keeps.loop {w : Nat} {σ : Type} {lb ub st : BitVec w} {hok : Scf.OK lb ub st} {init : σ}
    {body : Fin (Scf.trips lb ub st) → σ → Prog (TpuEff nD τ sig Val Λ .tc) σ}
    (h : ∀ k acc, Keeps defs 𝒱 c R (body k acc)) : Keeps defs 𝒱 c R (Scf.for lb ub st hok init body) := by
  unfold Keeps
  refine BIBase.Entails.trans ?_ (Scf.wp_for _ _ _ lb ub st hok init body (fun _ _ => R) (fun k acc => h k acc))
  iintro H
  isplitl [H]; · iexact H
  iintro %acc H; iexact H

/-- A branch keeps what both its sides keep. -/
theorem Keeps.dite {C : Prop} [Decidable C] {p : C → Prog (TpuEff nD τ sig Val Λ .tc) α} {q : ¬ C → Prog (TpuEff nD τ sig Val Λ .tc) α}
    (hp : ∀ h, Keeps defs 𝒱 c R (p h)) (hq : ∀ h, Keeps defs 𝒱 c R (q h)) : Keeps defs 𝒱 c R (if h : C then p h else q h) := by
  by_cases h : C
  · rw [dif_pos h]; exact hp h
  · rw [dif_neg h]; exact hq h

/-- A side condition that holds may be assumed. -/
theorem Keeps.assume {C : Prop} {d : Decidable C} (h : C) : Keeps defs 𝒱 c R (Prog.lift (TpuEff.assume C d)) := by
  unfold Keeps
  exact BIBase.Entails.trans (le_wp_ret _ _ _ (PLift.up h) (fun _ => R)) (wp_assume 𝒱 (c : Thread nD τ) none Set.univ h)

/-- What a program keeps it keeps beside anything else. -/
theorem Keeps.left {p : Prog (TpuEff nD τ sig Val Λ .tc) α} (h : Keeps defs 𝒱 c P p) : Keeps defs 𝒱 c iprop(P ∗ Q) p :=
  (sep_mono_left h).trans (wp_frame_r _ _ _)

/-- The same with the other resources first. -/
theorem Keeps.right {p : Prog (TpuEff nD τ sig Val Λ .tc) α} (h : Keeps defs 𝒱 c Q p) : Keeps defs 𝒱 c iprop(P ∗ Q) p :=
  (sep_mono_right h).trans (wp_frame_l _ _ _)

/-- Every load through the memref keeps `R`. -/
def Reads (defs : Defs nD τ sig Val Λ) (𝒱 : Variants) (c : Dev nD) (R : sProp 𝕄) {s : Shape} {e : EltTy} (a : Memref sig .tc .vmem s e) : Prop :=
  ∀ (r : LoadRect s) (hl : a.view.LoadsAt r), Keeps defs 𝒱 c R (Prog.lift (.load a r hl))

/-- Every store through the memref keeps `R`. -/
def Writes (defs : Defs nD τ sig Val Λ) (𝒱 : Variants) (c : Dev nD) (R : sProp 𝕄) {s : Shape} {e : EltTy} (a : Memref sig .tc .vmem s e) : Prop :=
  ∀ (r : Rect s) (w : r.shape.Idx → Val e) (Mk : Finset r.shape.Idx) (hx : (a.access r).Stores Mk) (hm : Mk = Finset.univ ∨ ∀ d, r.stride d = 1),
    Keeps defs 𝒱 c R (Prog.lift (.store a r w Mk hx hm))

/-- A load from a memref that may be read. -/
theorem Reads.load {s : Shape} {e : EltTy} {a : Memref sig .tc .vmem s e} (h : Reads defs 𝒱 c R a) {r : LoadRect s} {hl : a.view.LoadsAt r} :
    Keeps defs 𝒱 c R (Prog.lift (.load a r hl)) := h r hl

/-- A store to a memref that may be written. -/
theorem Writes.store {s : Shape} {e : EltTy} {a : Memref sig .tc .vmem s e} (h : Writes defs 𝒱 c R a) {r : Rect s} {w : r.shape.Idx → Val e}
    {Mk : Finset r.shape.Idx} {hx : (a.access r).Stores Mk} {hm : Mk = Finset.univ ∨ ∀ d, r.stride d = 1} :
    Keeps defs 𝒱 c R (Prog.lift (.store a r w Mk hx hm)) := h r w Mk hx hm

section
variable {s : Shape} {e : EltTy} (a : Memref sig .tc .vmem s e)

/-- A memref owned at named contents may be read. -/
theorem reads_owns (X : s.Idx → Val e) : Reads defs 𝒱 c (owns (c : Thread nD τ) a fullShare X) a := fun r hl => by
  unfold Keeps owns
  iintro ⟨%f, %hf, H⟩
  iapply (wp_load 𝒱 (c : Thread nD τ) none Set.univ (m := a) (r := r) (hl := hl) (a.view.setOn_subset_set r.set)) $$ H
  iintro H
  iapply (le_wp_ret _ _ _ _ _)
  iexists f; isplitr
  · ipureintro; exact hf
  · iexact H

/-- A memref owned at some contents may be read. -/
theorem reads_some : Reads defs 𝒱 c iprop(∃ X, owns (c : Thread nD τ) a fullShare X) a := fun r hl => by
  unfold Keeps
  iintro ⟨%X, H⟩
  iapply (BIBase.Entails.trans (reads_owns (defs := defs) (𝒱 := 𝒱) a X r hl) (wp_mono _ _ _ fun _ => exists_intro (Φ := fun X => owns (c : Thread nD τ) a fullShare X) X))
  iexact H

/-- A memref owned at some contents may be written, and is owned at some contents again. -/
theorem writes_some : Writes defs 𝒱 c iprop(∃ X, owns (c : Thread nD τ) a fullShare X) a := fun r w Mk hx hm => by
  unfold Keeps owns
  iintro ⟨%X, %f, -, H⟩
  iapply (wp_store 𝒱 (c : Thread nD τ) none Set.univ (m := a) (r := r) (w := w) (Mk := Mk) (hx := hx) (hm := hm)
    (((a.access r).setOn_subset_set Mk).trans (a.view.set_slice_subset r))) $$ H
  iintro H
  iapply (le_wp_ret _ _ _ _ _)
  iexists _, _; isplitr; swap; · iexact H
  ipureintro; rfl

variable {a}
theorem Reads.left (h : Reads defs 𝒱 c P a) : Reads defs 𝒱 c iprop(P ∗ Q) a := fun r hl => (h r hl).left
theorem Reads.right (h : Reads defs 𝒱 c Q a) : Reads defs 𝒱 c iprop(P ∗ Q) a := fun r hl => (h r hl).right
theorem Writes.left (h : Writes defs 𝒱 c P a) : Writes defs 𝒱 c iprop(P ∗ Q) a := fun r w Mk hx hm => (h r w Mk hx hm).left
theorem Writes.right (h : Writes defs 𝒱 c Q a) : Writes defs 𝒱 c iprop(P ∗ Q) a := fun r w Mk hx hm => (h r w Mk hx hm).right

end

end Cert.Walk

end
-- ==== Proof.DsaBody.lean ====
/-
  The attention call's body keeps its blocks: from ownership of its fourteen buffers the body runs to the end, and each buffer
  is owned again, the seven it only reads holding what they held. The search over the keys runs counted loops and a
  `lax.switch` whose branches differ in how many keys they read, so the proof is one walk over the printed operations in
  which every loop has one invariant, the ownership itself, and every conditional is walked on both sides.
-/
module

public import proofs.«01_k».proof.Proof.Keeps
public import proofs.«01_k».proof.Proof.Gen.Kernel

@[expose] public section

set_option maxRecDepth 16384

noncomputable section

namespace Cert.Kernel.Dsa

open Cert.Kernel Cert.Walk
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {R : sProp (MT nD τ sig Unit (Elt F) ℕ (UR sig nD τ) ℕ)}

set_option maxHeartbeats 0 in
/-- The body keeps the resource `R` whenever each staged input lets itself be read under `R`, and each output and each
    scratch buffer be read and written. A sequence keeps what its steps keep (`Keeps.bind`), a counted loop what one trip
    keeps (`Keeps.loop`), a conditional what both sides keep (`Keeps.dite`), a load and a store by the buffer's own
    hypothesis; the one assumption printed, that the two innermost loops' bounds are those of a counted loop, is decided. -/
theorem keeps_cc0_dsa_attention (i : grid0.Coords)
    (arg2 : Memref sig .tc .vmem S4x128x512 .bf16) (harg2 : arg2.IsWhole)
    (arg3 : Memref sig .tc .vmem S4x1x1x1024 .f32) (harg3 : arg3.IsWhole)
    (arg4 : Memref sig .tc .vmem S4x4x128x256 .bf16) (harg4 : arg4.IsWhole)
    (arg5 : Memref sig .tc .vmem S4x2048x128 .bf16) (harg5 : arg5.IsWhole)
    (arg6 : Memref sig .tc .vmem S4x2048x256 .bf16) (harg6 : arg6.IsWhole)
    (arg7 : Memref sig .tc .vmem S4x8x128x256 .bf16) (harg7 : arg7.IsWhole)
    (arg8 : Memref sig .tc .vmem S4x128x128 .bf16) (harg8 : arg8.IsWhole)
    (arg9 : Memref sig .tc .vmem S4x128x512 .bf16) (harg9 : arg9.IsWhole)
    (arg10 : Memref sig .tc .vmem S4x1024x128 .bf16) (harg10 : arg10.IsWhole)
    (arg11 : Memref sig .tc .vmem S4x2048x128 .f32) (harg11 : arg11.IsWhole)
    (arg12 : Memref sig .tc .vmem S4x2048x512 .f32) (harg12 : arg12.IsWhole)
    (arg13 : Memref sig .tc .vmem S4x128x512 .f32) (harg13 : arg13.IsWhole)
    (arg14 : Memref sig .tc .vmem S4x1x128 .f32) (harg14 : arg14.IsWhole)
    (arg15 : Memref sig .tc .vmem S4x1x128 .i32) (harg15 : arg15.IsWhole)
    (r2 : Reads (defs₀ (F := F)) Variants.none c R arg2) (r3 : Reads (defs₀ (F := F)) Variants.none c R arg3) (r4 : Reads (defs₀ (F := F)) Variants.none c R arg4) (r5 : Reads (defs₀ (F := F)) Variants.none c R arg5) (r6 : Reads (defs₀ (F := F)) Variants.none c R arg6) (r7 : Reads (defs₀ (F := F)) Variants.none c R arg7) (r8 : Reads (defs₀ (F := F)) Variants.none c R arg8) (r9 : Reads (defs₀ (F := F)) Variants.none c R arg9) (r10 : Reads (defs₀ (F := F)) Variants.none c R arg10) (r11 : Reads (defs₀ (F := F)) Variants.none c R arg11) (r12 : Reads (defs₀ (F := F)) Variants.none c R arg12) (r13 : Reads (defs₀ (F := F)) Variants.none c R arg13) (r14 : Reads (defs₀ (F := F)) Variants.none c R arg14) (r15 : Reads (defs₀ (F := F)) Variants.none c R arg15)
    (w9 : Writes (defs₀ (F := F)) Variants.none c R arg9) (w10 : Writes (defs₀ (F := F)) Variants.none c R arg10) (w11 : Writes (defs₀ (F := F)) Variants.none c R arg11) (w12 : Writes (defs₀ (F := F)) Variants.none c R arg12) (w13 : Writes (defs₀ (F := F)) Variants.none c R arg13) (w14 : Writes (defs₀ (F := F)) Variants.none c R arg14) (w15 : Writes (defs₀ (F := F)) Variants.none c R arg15) :
    Keeps (defs₀ (F := F)) Variants.none c R (cc0_dsa_attention i arg2 harg2 arg3 harg3 arg4 harg4 arg5 harg5 arg6 harg6 arg7 harg7 arg8 harg8 arg9 harg9 arg10 harg10 arg11 harg11 arg12 harg12 arg13 harg13 arg14 harg14 arg15 harg15) := by
  unfold cc0_dsa_attention
  repeat' first
   | with_reducible first
    | refine Keeps.bind ?_ ?_
    | exact r2.load
    | exact r3.load
    | exact r4.load
    | exact r5.load
    | exact r6.load
    | exact r7.load
    | exact r8.load
    | exact r9.load
    | exact r10.load
    | exact r11.load
    | exact r12.load
    | exact r13.load
    | exact r14.load
    | exact r15.load
    | exact w9.store
    | exact w10.store
    | exact w11.store
    | exact w12.store
    | exact w13.store
    | exact w14.store
    | exact w15.store
    | exact Keeps.pure _
    | refine Keeps.loop ?_
    | refine Keeps.dite ?_ ?_
    | exact Keeps.assume (Gen.k0_chk1_all _ _ _ _)
    | refine Prod.forall.2 ?_
    | refine PSigma.forall.2 ?_
    | intro _
   | refine Keeps.bind ?_ ?_
   | exact Keeps.pure _

end Cert.Kernel.Dsa

end
-- ==== Proof.DsaSame.lean ====
/-
  The attention call's program at the ideal instance has the text of the one at bits: none of its operations was rewritten.
  So its body and its body table are the other's, and a run of one is a run of the other.
-/
module

public import proofs.«01_k».proof.Proof.Gen.Kernel
public import proofs.«01_k».proof.Proof.Gen.KernelIdeal

@[expose] public section

set_option maxRecDepth 100000

noncomputable section

namespace Cert.Same

open Idealize.ShloMosaic Idealize.ShloMosaic.TcCoe

variable {F : FTy → Type} [FloatOps F]

set_option maxHeartbeats 0 in
/-- The two bodies are one. -/
theorem body_eq : @Cert.KernelIdeal.cc0_dsa_attention F _ _ = @Cert.Kernel.cc0_dsa_attention F _ _ := rfl

set_option maxHeartbeats 0 in
/-- The two tables of kernel bodies are one: their only row is the body. -/
theorem defs₀_eq : @Cert.KernelIdeal.defs₀ F _ _ = @Cert.Kernel.defs₀ F _ _ := by
  unfold Cert.KernelIdeal.defs₀ Cert.Kernel.defs₀
  refine congrArg Defs.onTc (funext fun l => funext fun a => ?_)
  match l, a with
  | 0, (t, s) => rfl

/-- The two programs' tables, with the launch's own labels, are one. -/
theorem defs_eq : @Cert.KernelIdeal.defs F _ _ = @Cert.Kernel.defs F _ _ := congrArg (Pipeline.defs _) defs₀_eq

end Cert.Same

end
-- ==== Proof.DsaFrame.lean ====
/-
  The attention call runs and leaves its arguments alone. Nothing is said of what the body leaves in the output's
  staging buffer or in the scratch, so the proof data name no contents: every window is handed to the body at some
  contents and taken back at some contents (the arguments' arrays are never written back).
-/
module

public import proofs.«01_k».proof.Proof.DsaBody
public import proofs.«01_k».proof.Defs
public import proofs.«01_k».proof.Proof.Gen.Kernel.Frame
public import proofs.«01_k».proof.Proof.DsaSame
public import Idealize.ShloMosaic.Lib.Pipeline.Frame

@[expose] public section

set_option maxRecDepth 16384

noncomputable section

namespace Cert.Kernel.Dsa

open Cert.Kernel Cert.Kernel.Gen Cert.Walk
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]
variable (m : (ℓ : Loc nD τ sig) → Buf (Elt F) ℓ) (ρ : Dev nD → PrngReg)

/-- No window's contents are followed. -/
def forgets : Fin 8 → Bool := fun _ => true

/-- The proof data on core `c`: the arrays as the call finds them, nothing named of what the body leaves, the scratch
    at some contents between two points, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The scratch buffers at some contents and the generator register at some state. -/
theorem Phi_eq (c : Dev nD) :
    (Pipeline.ΦA (Val := Elt F) (U := UR sig nD τ) spec0 c : sProp (MT nD τ sig Unit (Elt F) ℕ (UR sig nD τ) ℕ))
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ ∃ r, prngReg c r) := by
  unfold Pipeline.ΦA; rw [scopedRest0_eq]; simp only [owns_whole]; try rfl

/-- What the body is called with at point `t`, and returns: the scratch, what is owed, and the eight windows'
    staging buffers at some contents each. -/
def held (c : Dev nD) (t : Fin cfg0.N) : sProp (MT nD τ sig Unit (Elt F) ℕ (UR sig nD τ) ℕ) :=
  iprop((((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ ∃ r, prngReg c r)
    ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d)
    ∗ (∃ d, owns (c : Thread nD τ) (st0_6 t) fullShare d) ∗ (∃ d, owns (c : Thread nD τ) (st0_7 t) fullShare d))

/-- The body at point `t` runs and gives back what it was handed. -/
theorem body_keeps (c : Dev nD) (t : Fin cfg0.N) : Keeps (defs₀ (F := F)) Variants.none c (held m c t) (bodyAt0 t) := by
  unfold held
  exact keeps_cc0_dsa_attention _ _ _ _ _ _ _ _ _ _ _ _ _ _ _ _ _ _ _ _ _ _ _ _ _ _ _ _ _
    (reads_some _).left.right.right (reads_some _).left.right.right.right (reads_some _).left.right.right.right.right
    (reads_some _).left.right.right.right.right.right (reads_some _).left.right.right.right.right.right.right
    (reads_some _).left.right.right.right.right.right.right.right (reads_some _).left.right.right.right.right.right.right.right.right
    (reads_some _).right.right.right.right.right.right.right.right.right
    (reads_some _).left.left.left (reads_some _).left.right.left.left (reads_some _).left.right.right.left.left
    (reads_some _).left.right.right.right.left.left (reads_some _).left.right.right.right.right.left.left
    (reads_some _).right.right.right.right.right.left.left
    (writes_some _).right.right.right.right.right.right.right.right.right
    (writes_some _).left.left.left (writes_some _).left.right.left.left (writes_some _).left.right.right.left.left
    (writes_some _).left.right.right.right.left.left (writes_some _).left.right.right.right.right.left.left
    (writes_some _).right.right.right.right.right.left.left

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body obligation, every window's contents forgotten. -/
theorem body_obligation (c : Dev nD) :
    BodyObligation (dats (F := F) m 0 c) (defs₀ (F := F)) Variants.none () Set.univ forgets := fun t => by
  rw [bigSep_W0, bigSep_W0, defs₀_row,
    show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, Phi_eq]
  exact triple_restated (body_keeps m c t) rfl .rfl fun _ => .rfl

-- the launch theorem's implicit arguments are found by unifying its conclusion with the statement, through plain definitions
set_option backward.isDefEq.respectTransparency.types false in
/-- From any memory with zero counters every execution ends, with every input array as the call found it and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Kernel.Dsa

namespace Cert.Proof

open Idealize.ShloMosaic Idealize.ShloMosaic.TcCoe Idealize.SL.Sem

/-- The attention call, at any float values: it runs, its arguments end unchanged and every counter ends at zero. -/
theorem frame_any {F : FTy → Type} [FloatOps F] [∀ e, Nonempty (Elt F e)]
    (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6))
        ∧ r.2.sem = fun _ => 0) :=
  (θ_run Cert.Kernel.defs _ _).mono (fun _ h => ⟨fun c =>
      ⟨h.1.arr_in c 0 rfl, h.1.arr_in c 1 rfl, h.1.arr_in c 2 rfl, h.1.arr_in c 3 rfl, h.1.arr_in c 4 rfl, h.1.arr_in c 5 rfl, h.1.arr_in c 6 rfl⟩, h.2⟩)
    (Cert.Kernel.Dsa.run_main (F := F) m ρ)

/-- The frame at bits. -/
theorem frame_attention : Cert.quiescent_Kernel (hKernel := Cert.Kernel.Gen.facts) := fun m ρ _ => frame_any m ρ

/-- The frame at the ideal instance: no operation of the program was rewritten, so its text is the other's. -/
theorem frame_attention_ideal : Cert.quiescent_KernelIdeal (hKernelIdeal := Cert.KernelIdeal.Gen.facts) := fun m ρ _ => by
  have h := frame_any (F := Ideal) m ρ
  rw [← Cert.Same.defs_eq] at h
  exact h

end Cert.Proof

end
-- ==== Proof.Final.lean ====
/-
  The value of the layer's last call: the embedding projected through a gate is added to the residual, and the sum is
  normalized. At the ideal instance the kernel's result array and the reference's are one function of the arguments.
-/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## One token -/

namespace Cert.Proof.FinalSpec

/-- A token's residual after the gated embedding, at feature `d`: the residual `x`, plus the experts' output `y`, plus the
    embedding `p` projected by `wp` and scaled by the sigmoid of `x + y` projected by `wg`. -/
def gated (x y : Fin 1024 → EReal) (p : Fin 256 → EReal) (wg : Fin 1024 → Fin 1024 → EReal)
    (wp : Fin 256 → Fin 1024 → EReal) (d : Fin 1024) : EReal :=
  (x d + y d) + Ideal.logistic (∑ k : Fin 1024, (x k + y k) * wg k d) * ∑ k : Fin 256, p k * wp k d

/-- A token's vector `v` divided by its root mean square, at feature `d`, times the weight `g d`. -/
def normed (v g : Fin 1024 → EReal) (d : Fin 1024) : EReal :=
  v d * Ideal.rsqrt (Ideal.div (∑ k : Fin 1024, v k * v k) (Ideal.ofBits .f32 0x44800000#32)
    + Ideal.ofBits .f32 0x358637BD#32) * g d

/-- The sequence that row `n` of the flat token axis belongs to, and its position in it. -/
def bat (n : Fin 16384) : Fin 8 := ⟨n.val / 2048, by omega⟩
def pos (n : Fin 16384) : Fin 2048 := ⟨n.val % 2048, by omega⟩

/-- The result: at row `n` and feature `d`, token `n`'s gated residual, normalized. -/
def result (x y : (⟨3, ![8, 2048, 1024]⟩ : Shape).Idx → EReal) (p : (⟨3, ![8, 2048, 256]⟩ : Shape).Idx → EReal)
    (wg : (⟨2, ![1024, 1024]⟩ : Shape).Idx → EReal) (wp : (⟨2, ![256, 1024]⟩ : Shape).Idx → EReal)
    (g : (⟨1, ![1024]⟩ : Shape).Idx → EReal) : (⟨2, ![16384, 1024]⟩ : Shape).Idx → EReal := fun i =>
  normed (gated (fun k => x (ix3 (bat (i 0)) (pos (i 0)) k)) (fun k => y (ix3 (bat (i 0)) (pos (i 0)) k))
    (fun k => p (ix3 (bat (i 0)) (pos (i 0)) k)) (fun k l => wg (ix2 k l)) (fun k l => wp (ix2 k l)))
    (fun k => g (ix1 k)) (i 1)

end Cert.Proof.FinalSpec

/-! ## The kernel -/

namespace Cert.Kernel2Ideal.RefValue

open Cert.Kernel2Ideal Cert.Kernel2Ideal.Gen Cert.Proof.FinalSpec

/-- The block the body stores, at row `r` and feature `d`: row `r`'s gated residual, normalized. -/
theorem pay_apply (x y : Vec Ideal S1024x1024 .f32) (wg : Vec Ideal S1024x1024 .bf16) (p : Vec Ideal S1024x256 .f32)
    (wp : Vec Ideal S256x1024 .bf16) (g : Vec Ideal S1x1024 .f32) (r d : Fin 1024) :
    k0_pay1 (F := Ideal) x y wg p wp g (ix2 r d)
      = normed (gated (fun k => x (ix2 r k)) (fun k => y (ix2 r k)) (fun k => p (ix2 r k)) (fun k l => wg (ix2 k l))
          (fun k l => wp (ix2 k l))) (fun k => g (ix2 0 k)) d := by
  pointwise [k0_pay1, normed, gated]

variable (m : (ℓ : Loc nD τ sig) → Buf (Elt Ideal) ℓ) (ρ : Dev nD → PrngReg)

/-- What the region finds in the arrays that host operations prepare: the reshaped residual, experts' output and embedding,
    the two weights (a change of format is the identity here), and the norm's weight as one row. -/
theorem V_main_v0 (c : Dev nD) (n : Fin 16384) (k : Fin 1024) :
    V m c main_v0 (ix2 n k) = m ((c : Thread nD τ).loc main_arg0) (ix3 (bat n) (pos n) k) := by
  show StableHlo.after hostOps0 _ (Proc.devRef .tc main_v0) _ = _
  after_results
  pointwise [bat, pos]
theorem V_main_v1 (c : Dev nD) (n : Fin 16384) (k : Fin 1024) :
    V m c main_v1 (ix2 n k) = m ((c : Thread nD τ).loc main_arg1) (ix3 (bat n) (pos n) k) := by
  show StableHlo.after hostOps0 _ (Proc.devRef .tc main_v1) _ = _
  after_results
  pointwise [bat, pos]
theorem V_main_v2 (c : Dev nD) (n : Fin 16384) (k : Fin 256) :
    V m c main_v2 (ix2 n k) = m ((c : Thread nD τ).loc main_arg2) (ix3 (bat n) (pos n) k) := by
  show StableHlo.after hostOps0 _ (Proc.devRef .tc main_v2) _ = _
  after_results
  pointwise [bat, pos]
theorem V_main_v3 (c : Dev nD) (k l : Fin 1024) :
    V m c main_v3 (ix2 k l) = m ((c : Thread nD τ).loc main_arg3) (ix2 k l) := by
  show StableHlo.after hostOps0 _ (Proc.devRef .tc main_v3) _ = _
  after_results
  pointwise
theorem V_main_v4 (c : Dev nD) (k : Fin 256) (l : Fin 1024) :
    V m c main_v4 (ix2 k l) = m ((c : Thread nD τ).loc main_arg4) (ix2 k l) := by
  show StableHlo.after hostOps0 _ (Proc.devRef .tc main_v4) _ = _
  after_results
  pointwise
theorem V_main_v5 (c : Dev nD) (k : Fin 1024) :
    V m c main_v5 (ix2 0 k) = m ((c : Thread nD τ).loc main_arg5) (ix1 k) := by
  show StableHlo.after hostOps0 _ (Proc.devRef .tc main_v5) _ = _
  after_results
  pointwise

/-- The windows' block indices: the token blocks move with the point, the weights stay. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] := by
  decide +kernel

/-- The row of the flat token axis that row `r` of point `t`'s block is. -/
def row (t : Fin cfg0.N) (r : Fin 1024) : Fin 16384 :=
  ⟨t.val * 1024 + r.val, by have h : t.val < 16 := t.isLt; omega⟩

/-- Point `t`'s input blocks, read off the arguments. -/
theorem iblk_0 (c : Dev nD) (t : Fin cfg0.N) (r k : Fin 1024) :
    iblk m c 0 t (ix2 r k) = m ((c : Thread nD τ).loc main_arg0) (ix3 (bat (row t r)) (pos (row t r)) k) := by
  rw [← V_main_v0 m c (row t r) k]
  blk_ext [iblk, row, idx t]
theorem iblk_1 (c : Dev nD) (t : Fin cfg0.N) (r k : Fin 1024) :
    iblk m c 1 t (ix2 r k) = m ((c : Thread nD τ).loc main_arg1) (ix3 (bat (row t r)) (pos (row t r)) k) := by
  rw [← V_main_v1 m c (row t r) k]
  blk_ext [iblk, row, idx t]
theorem iblk_2 (c : Dev nD) (t : Fin cfg0.N) (r : Fin 1024) (k : Fin 256) :
    iblk m c 2 t (ix2 r k) = m ((c : Thread nD τ).loc main_arg2) (ix3 (bat (row t r)) (pos (row t r)) k) := by
  rw [← V_main_v2 m c (row t r) k]
  blk_ext [iblk, row, idx t]
theorem iblk_3 (c : Dev nD) (t : Fin cfg0.N) (k l : Fin 1024) :
    iblk m c 3 t (ix2 k l) = m ((c : Thread nD τ).loc main_arg3) (ix2 k l) := by
  rw [← V_main_v3 m c k l]
  blk_ext [iblk, idx t]
theorem iblk_4 (c : Dev nD) (t : Fin cfg0.N) (k : Fin 256) (l : Fin 1024) :
    iblk m c 4 t (ix2 k l) = m ((c : Thread nD τ).loc main_arg4) (ix2 k l) := by
  rw [← V_main_v4 m c k l]
  blk_ext [iblk, idx t]
theorem iblk_5 (c : Dev nD) (t : Fin cfg0.N) (k : Fin 1024) :
    iblk m c 5 t (ix2 0 k) = m ((c : Thread nD τ).loc main_arg5) (ix1 k) := by
  rw [← V_main_v5 m c k]
  blk_ext [iblk, idx t]

/-- What the result array is shown to hold. -/
abbrev val (c : Dev nD) : Buf (Elt Ideal) ((c : Thread nD τ).loc main_v6) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The points' blocks tile the result array and each is its block of `val`. -/
theorem final (c : Dev nD) : (dats m 0 c).arrAt 6 cfg0.N = val m c := by
  refine (dats m 0 c).arrAt_eq_of_covers 6 _ (by decide +kernel) fun t hf y => ?_
  blk_simp
  rw [after0_6]
  frame_out
  idx_vars y
  refine (pay_apply _ _ _ _ _ _ _ _).trans ?_
  simp only [iblk_0, iblk_1, iblk_2, iblk_3, iblk_4, iblk_5]
  have he : ((View.whole main_v6).slice (win0_6.rect t)).emb (ix2 y0 y1) = ix2 (row t y0) y1 := by
    blk_ext [row, idx t]
  rw [he]
  rfl

/-- The kernel leaves `val` in its result array and its arguments as they were. -/
theorem run : θ_run defs (onTc (τ := τ) (main (F := Ideal))) ⟨m, fun _ => 0, ρ⟩ fun r => ∀ c : Dev nD,
      r.2.mem ((c : Thread nD τ).loc main_v6) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Kernel2Ideal.RefValue

namespace Cert.Reference2Ideal.RefValue

open Cert.Reference2Ideal Cert.Reference2Ideal.Gen Cert.Reference2Ideal.Read Cert.Proof.FinalSpec

/-- The reference before its last reshape, at sequence `b`, position `t` and feature `d`. -/
theorem ref_apply (x y : Vec Ideal S8x2048x1024 .f32) (p : Vec Ideal S8x2048x256 .f32) (wg : Vec Ideal S1024x1024 .f32)
    (wp : Vec Ideal S256x1024 .f32) (g : Vec Ideal S1024 .f32) (b : Fin 8) (t : Fin 2048) (d : Fin 1024) :
    val_main_v23 (F := Ideal) x y p wg wp g (ix3 b t d)
      = normed (gated (fun k => x (ix3 b t k)) (fun k => y (ix3 b t k)) (fun k => p (ix3 b t k))
          (fun k l => wg (ix2 k l)) (fun k l => wp (ix2 k l))) (fun k => g (ix1 k)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, normed, gated, Ideal.logistic]

/-- The reference's result, its tokens laid out on one axis: `result` of the arguments. -/
theorem ref_result (x y : Vec Ideal S8x2048x1024 .f32) (p : Vec Ideal S8x2048x256 .f32) (wg : Vec Ideal S1024x1024 .f32)
    (wp : Vec Ideal S256x1024 .f32) (g : Vec Ideal S1024 .f32) (j : S16384x1024.Idx) :
    val_main_v24 (F := Ideal) x y p wg wp g j = result x y p wg wp g j := by
  idx_vars j
  have h : val_main_v24 (F := Ideal) x y p wg wp g (ix2 j0 j1)
      = val_main_v23 (F := Ideal) x y p wg wp g (ix3 (bat j0) (pos j0) j1) := by
    pointwise [val_main_v24, bat, pos]
  rw [h, ref_apply]
  rfl

end Cert.Reference2Ideal.RefValue

/-! ## The claims -/

namespace Cert.Proof.FinalClaims

open Idealize.ShloMosaic Idealize.ShloMosaic.TcCoe Idealize.SL.Sem

/-- The last call's program runs to the end and keeps its arguments, at bits and at the ideal instance, and so does its
    reference. -/
theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- At the ideal instance the kernel's result and the reference's are `result` of arguments that agree. -/
theorem algebraic : Cert.algebraic_Kernel2Ideal_Reference2Ideal := by
  intro m ρ m' ρ' _ hagree
  refine ⟨fun c => Cert.Kernel2Ideal.RefValue.val m c, Cert.Kernel2Ideal.RefValue.run m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5⟩ := hagree c
  rw [h0, h1, h2, h3, h4, h5]
  exact (Cert.Reference2Ideal.Read.val_main_v24_eq _ _ _ _ _ _).trans
    (funext (Cert.Reference2Ideal.RefValue.ref_result _ _ _ _ _ _))

end Cert.Proof.FinalClaims
end
-- ==== Proof.OutProj.lean ====
/-
  The value of the output projection: the mixed head groups are projected onto the residual, the sum is normalized, and the
  experts' queries made of it are scored against the keys of the two halves. At the ideal instance the kernel's four result
  arrays and the reference's are the same functions of the arguments.
-/
module

public import proofs.«01_k».proof.Defs
public import proofs.«01_k».proof.Proof.Final
public import proofs.«01_k».proof.Proof.Gen.Kernel3.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.ValueLayout
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## One token -/

namespace Cert.Proof.OutSpec

open Cert.Proof.FinalSpec

/-- The two head groups' outputs of a token, `a` then `r`, as one vector. -/
def mixed (a r : Fin 512 → EReal) (k : Fin 1024) : EReal :=
  if h : k.val < 512 then a ⟨k.val, h⟩ else r ⟨k.val - 512, by omega⟩

/-- A token's residual `x` plus its mixed groups projected by `w`, at feature `d`. -/
def resid (x : Fin 1024 → EReal) (a r : Fin 512 → EReal) (w : Fin 1024 → Fin 1024 → EReal) (d : Fin 1024) : EReal :=
  x d + ∑ k : Fin 1024, mixed a r k * w k d

/-- A sum over the two groups' features is the sum over the first group's plus the sum over the second's. -/
theorem sum_mixed (a r : Fin 512 → EReal) (w : Fin 1024 → EReal) :
    ∑ k : Fin 1024, mixed a r k * w k
      = ∑ k : Fin 512, a k * w ⟨k.val, by omega⟩ + ∑ k : Fin 512, r k * w ⟨512 + k.val, by omega⟩ := by
  refine (Fin.sum_univ_add (a := 512) (b := 512) _).trans ?_
  congr 1 <;> refine Finset.sum_congr rfl fun k _ => ?_
  all_goals simp [mixed]

/-- The new residual of row `n` of the flat token axis, the tokens lying by sequence and position in the arguments. -/
def tokResid (x : (⟨3, ![8, 2048, 1024]⟩ : Shape).Idx → EReal) (a r : (⟨3, ![8, 2048, 512]⟩ : Shape).Idx → EReal)
    (w : (⟨2, ![1024, 1024]⟩ : Shape).Idx → EReal) (n : Fin 16384) : Fin 1024 → EReal :=
  resid (fun k => x (ix3 (bat n) (pos n) k)) (fun k => a (ix3 (bat n) (pos n) k)) (fun k => r (ix3 (bat n) (pos n) k))
    (fun k l => w (ix2 k l))

/-- That residual normalized with the weight `g`. -/
def tokNormed (x : (⟨3, ![8, 2048, 1024]⟩ : Shape).Idx → EReal) (a r : (⟨3, ![8, 2048, 512]⟩ : Shape).Idx → EReal)
    (w : (⟨2, ![1024, 1024]⟩ : Shape).Idx → EReal) (g : (⟨1, ![1024]⟩ : Shape).Idx → EReal) (n : Fin 16384) : Fin 1024 → EReal :=
  normed (tokResid x a r w n) (fun k => g (ix1 k))

/-- The score of row `n` at head `h` against key `j` of one half, whose lanes start at `o` within the head's 256: the
    normalized residual projected by `p` onto the half's lanes, times the key. -/
def tokScore (x : (⟨3, ![8, 2048, 1024]⟩ : Shape).Idx → EReal) (a r : (⟨3, ![8, 2048, 512]⟩ : Shape).Idx → EReal)
    (w : (⟨2, ![1024, 1024]⟩ : Shape).Idx → EReal) (g : (⟨1, ![1024]⟩ : Shape).Idx → EReal)
    (p : (⟨2, ![1024, 2048]⟩ : Shape).Idx → EReal) (key : (⟨3, ![8, 128, 128]⟩ : Shape).Idx → EReal) (o : ℕ) (ho : o ≤ 128)
    (h : Fin 8) (j : Fin 128) (n : Fin 16384) : EReal :=
  ∑ d : Fin 128, key (ix3 h j d) * ∑ k : Fin 1024, tokNormed x a r w g n k * p (ix2 k ⟨h.val * 256 + o + d.val, by omega⟩)

/-- The four results as arrays. -/
def result0 (x : (⟨3, ![8, 2048, 1024]⟩ : Shape).Idx → EReal) (a r : (⟨3, ![8, 2048, 512]⟩ : Shape).Idx → EReal)
    (w : (⟨2, ![1024, 1024]⟩ : Shape).Idx → EReal) : (⟨2, ![16384, 1024]⟩ : Shape).Idx → EReal :=
  fun i => tokResid x a r w (i 0) (i 1)
def result1 (x : (⟨3, ![8, 2048, 1024]⟩ : Shape).Idx → EReal) (a r : (⟨3, ![8, 2048, 512]⟩ : Shape).Idx → EReal)
    (w : (⟨2, ![1024, 1024]⟩ : Shape).Idx → EReal) (g : (⟨1, ![1024]⟩ : Shape).Idx → EReal) :
    (⟨2, ![1024, 16384]⟩ : Shape).Idx → EReal :=
  fun i => tokNormed x a r w g (i 1) (i 0)
def result23 (o : ℕ) (ho : o ≤ 128) (x : (⟨3, ![8, 2048, 1024]⟩ : Shape).Idx → EReal)
    (a r : (⟨3, ![8, 2048, 512]⟩ : Shape).Idx → EReal) (w : (⟨2, ![1024, 1024]⟩ : Shape).Idx → EReal)
    (g : (⟨1, ![1024]⟩ : Shape).Idx → EReal) (p : (⟨2, ![1024, 2048]⟩ : Shape).Idx → EReal)
    (key : (⟨3, ![8, 128, 128]⟩ : Shape).Idx → EReal) : (⟨3, ![8, 128, 16384]⟩ : Shape).Idx → EReal :=
  fun i => tokScore x a r w g p key o ho (i 0) (i 1) (i 2)

end Cert.Proof.OutSpec

/-! ## The kernel -/

namespace Cert.Kernel3Ideal.RefValue

open Cert.Kernel3Ideal Cert.Kernel3Ideal.Gen Cert.Proof.FinalSpec Cert.Proof.OutSpec

/-- The new residual's block, at row `r` and feature `d`. -/
theorem pay2_apply (x : Vec Ideal S512x1024 .f32) (a r : Vec Ideal S512x512 .bf16) (w w' : Vec Ideal S512x1024 .bf16)
    (i : Fin 512) (d : Fin 1024) :
    k0_pay2 (F := Ideal) x a w r w' (ix2 i d)
      = (x (ix2 i d) + ∑ k : Fin 512, a (ix2 i k) * w (ix2 k d)) + ∑ k : Fin 512, r (ix2 i k) * w' (ix2 k d) := by
  pointwise [k0_pay2]

/-- The normalized rows: each row of the residual's block, normalized. -/
theorem pay3_apply (x : Vec Ideal S512x1024 .f32) (a r : Vec Ideal S512x512 .bf16) (w w' : Vec Ideal S512x1024 .bf16)
    (g : Vec Ideal S1x1024 .f32) (i : Fin 512) (d : Fin 1024) :
    k0_pay3 (F := Ideal) x a w r w' g (ix2 i d)
      = normed (fun k => k0_pay2 (F := Ideal) x a w r w' (ix2 i k)) (fun k => g (ix2 0 k)) d := by
  pointwise [k0_pay3, normed]

theorem pay4_apply (x : Vec Ideal S512x1024 .f32) (a r : Vec Ideal S512x512 .bf16) (w w' : Vec Ideal S512x1024 .bf16)
    (g : Vec Ideal S1x1024 .f32) (i : Fin 512) (d : Fin 1024) :
    k0_pay4 (F := Ideal) x a w r w' g (ix2 d i) = k0_pay3 (F := Ideal) x a w r w' g (ix2 i d) := by
  pointwise [k0_pay4]
theorem pay5_eq (x : Vec Ideal S512x1024 .f32) (a r : Vec Ideal S512x512 .bf16) (w w' : Vec Ideal S512x1024 .bf16)
    (g : Vec Ideal S1x1024 .f32) : k0_pay5 (F := Ideal) x a w r w' g = k0_pay3 (F := Ideal) x a w r w' g := rfl
theorem pay6_apply (h : Vec Ideal S512x1024 .bf16) (w : Vec Ideal S1024x2048 .bf16) (i : Fin 512) (e : Fin 2048) :
    k0_pay6 (F := Ideal) h w (ix2 i e) = ∑ k : Fin 1024, h (ix2 i k) * w (ix2 k e) := by
  pointwise [k0_pay6]

/-- The experts' queries of the block's rows, against one half's keys: at head `h`, key `n` and row `i`, `o` the half's first lane. -/
def score (q : Vec Ideal S512x2048 .bf16) (k : Vec Ideal S8x128x128 .bf16) (o : ℕ) (ho : o ≤ 128) (h : Fin 8) (n : Fin 128) (i : Fin 512) : EReal :=
  ∑ d : Fin 128, k (ix3 h n d) * q (ix2 i ⟨h.val * 256 + o + d.val, by omega⟩)

/-- A tile's scores as a product: keys against the lanes of the queries. -/
theorem dot_apply (kk : FVec Ideal S128x128 .bf16) (qq : FVec Ideal S512x128 .bf16) (z : Fin 1) (n : Fin 128) (i : Fin 512) :
    shapeCast S1x128x512 (matmul (F := Ideal) (φ₁ := .bf16) (φ₂ := .bf16) dot_S128x128_S512x128_S128x512_1_1_0_0_n_n none
        kk qq (constant S128x512 .f32 0x00000000#32)) shapeCasts_S128x512_S1x128x512 (ix3 z n i)
      = ∑ d : Fin 128, kk (ix2 n d) * qq (ix2 i d) := by
  pointwise []

/-- A head's keys, as loaded, at an index. -/
theorem key_apply (k : Vec Ideal S8x128x128 .bf16) (a : ℕ)
    (hk : ∀ c, (![a, 0, 0] : Fin 3 → ℕ) c + S1x128x128.size c ≤ S8x128x128.size c) (h : Fin 8) (e : h.val = a) (n d : Fin 128) :
    shapeCast S128x128 (View.ld k (Rect.unit (s := S8x128x128) ![a, 0, 0] S1x128x128.size hk)) shapeCasts_S1x128x128_S128x128
      (ix2 n d) = k (ix3 h n d) := by
  have e1 : ∀ kk : Vec Ideal S1x128x128 .bf16, shapeCast S128x128 kk shapeCasts_S1x128x128_S128x128 (ix2 n d) = kk (ix3 0 n d) := by
    intro kk
    pointwise []
  refine (e1 _).trans (congrArg k ?_)
  funext c
  fin_cases c <;> apply Fin.ext <;> simp [e]

/-- One head's store: `a` the head, `o` the first lane of the head's half of the queries. -/
theorem head_apply (q : Vec Ideal S512x2048 .bf16) (k : Vec Ideal S8x128x128 .bf16) (a o b : ℕ) (hb : b ≤ 128)
    (hk : ∀ c, (![a, 0, 0] : Fin 3 → ℕ) c + S1x128x128.size c ≤ S8x128x128.size c) (hs : S512x2048.Slices ![0, o] S512x128)
    (x : S1x128x512.Idx) (h : Fin 8) (n : Fin 128) (i : Fin 512) (h0 : h.val = a + (x 0).val) (h1 : n.val = (x 1).val)
    (h2 : i.val = (x 2).val) (ho : o = a * 256 + b) :
    shapeCast S1x128x512 (matmul (F := Ideal) (φ₁ := .bf16) (φ₂ := .bf16) dot_S128x128_S512x128_S128x512_1_1_0_0_n_n none
        (shapeCast S128x128 (View.ld k (Rect.unit (s := S8x128x128) ![a, 0, 0] S1x128x128.size hk)) shapeCasts_S1x128x128_S128x128)
        (extractStridedSlice S512x128 ![0, o] q hs) (constant S128x512 .f32 0x00000000#32)) shapeCasts_S128x512_S1x128x512 x
      = score q k b hb h n i := by
  subst ho
  idx_vars x
  obtain rfl : n = x1 := Fin.ext h1
  obtain rfl : i = x2 := Fin.ext h2
  have e : h.val = a := by have := x0.isLt; omega
  refine (dot_apply _ _ x0 n i).trans (Finset.sum_congr rfl fun d _ => ?_)
  rw [key_apply k a hk h e n d]
  subst e
  exact congrArg (_ * ·) (Idealize.ShloMosaic.ValueIdx.slice2_axis1_apply _ _ _ i d _ rfl)

/-- The two score arrays' blocks, at head `h`, key `n` and row `i`: the eight heads' stores tile each of them. -/
theorem out10_apply (x0 : Vec Ideal S512x1024 .f32) (x1 x2 : Vec Ideal S512x512 .bf16) (x3 : Vec Ideal S1024x1024 .bf16)
    (x4 : Vec Ideal S1x1024 .f32) (x5 : Vec Ideal S1024x2048 .bf16) (x6 x7 : Vec Ideal S8x128x128 .bf16) (h : Fin 8) (n : Fin 128) (i : Fin 512) :
    out0_10 (F := Ideal) x0 x1 x2 x3 x4 x5 x6 x7 (ix3 h n i) = score (k0_pay27 x0 x1 x2 x3 x4 x5 x6 x7) x6 0 (by omega) h n i := by
  unfold out0_10
  canon_tiles x h
  all_goals exact head_apply _ _ _ _ 0 _ _ _ x _ _ _ (by first | exact h0 | exact h0.trans (Nat.zero_add _).symm) h1 h2 rfl
theorem out11_apply (x0 : Vec Ideal S512x1024 .f32) (x1 x2 : Vec Ideal S512x512 .bf16) (x3 : Vec Ideal S1024x1024 .bf16)
    (x4 : Vec Ideal S1x1024 .f32) (x5 : Vec Ideal S1024x2048 .bf16) (x6 x7 : Vec Ideal S8x128x128 .bf16) (h : Fin 8) (n : Fin 128) (i : Fin 512) :
    out0_11 (F := Ideal) x0 x1 x2 x3 x4 x5 x6 x7 (ix3 h n i) = score (k0_pay27 x0 x1 x2 x3 x4 x5 x6 x7) x7 128 (by omega) h n i := by
  unfold out0_11
  canon_tiles x h
  all_goals exact head_apply _ _ _ _ 128 _ _ _ x _ _ _ (by first | exact h0 | exact h0.trans (Nat.zero_add _).symm) h1 h2 rfl

/-- The loads of whole blocks and of the weight's two halves of rows. -/
theorem ld_0 (x : Vec Ideal S512x1024 .f32) : View.ld x r0_0 = x := View.ld_unit_zero (by decide) _ _
theorem ld_1 (x : Vec Ideal S512x512 .bf16) : View.ld x r0_1 = x := View.ld_unit_zero (by decide) _ _
theorem ld_4 (x : Vec Ideal S1x1024 .f32) : View.ld x r0_4 = x := View.ld_unit_zero (by decide) _ _
theorem ld_6 (x : Vec Ideal S1024x2048 .bf16) : View.ld x r0_6 = x := View.ld_unit_zero (by decide) _ _
theorem ld_2 (x : Vec Ideal S1024x1024 .bf16) (k : Fin 512) (d : Fin 1024) :
    View.ld x r0_2 (ix2 k d) = x (ix2 ⟨k.val, by omega⟩ d) := by
  pointwise [r0_2]
theorem ld_3 (x : Vec Ideal S1024x1024 .bf16) (k : Fin 512) (d : Fin 1024) :
    View.ld x r0_3 (ix2 k d) = x (ix2 ⟨512 + k.val, by omega⟩ d) := by
  pointwise [r0_3]

/-- A row of the block's new residual, from the row of the residual and of the two groups and the whole weight. -/
def rowResid (x0 : Vec Ideal S512x1024 .f32) (x1 x2 : Vec Ideal S512x512 .bf16) (x3 : Vec Ideal S1024x1024 .bf16) (i : Fin 512) :
    Fin 1024 → EReal :=
  resid (fun k => x0 (ix2 i k)) (fun k => x1 (ix2 i k)) (fun k => x2 (ix2 i k)) (fun k l => x3 (ix2 k l))

theorem pay2_row (x0 : Vec Ideal S512x1024 .f32) (x1 x2 : Vec Ideal S512x512 .bf16) (x3 : Vec Ideal S1024x1024 .bf16)
    (i : Fin 512) (d : Fin 1024) :
    k0_pay2 (F := Ideal) x0 x1 (View.ld x3 r0_2) x2 (View.ld x3 r0_3) (ix2 i d) = rowResid x0 x1 x2 x3 i d := by
  rw [pay2_apply, rowResid, resid, sum_mixed, add_assoc]
  refine congrArg (_ + ·) (congrArg₂ (· + ·) (Finset.sum_congr rfl fun k _ => ?_) (Finset.sum_congr rfl fun k _ => ?_))
  · exact congrArg (_ * ·) (ld_2 x3 k d)
  · exact congrArg (_ * ·) (ld_3 x3 k d)
theorem pay3_row (x0 : Vec Ideal S512x1024 .f32) (x1 x2 : Vec Ideal S512x512 .bf16) (x3 : Vec Ideal S1024x1024 .bf16)
    (x4 : Vec Ideal S1x1024 .f32) (i : Fin 512) (d : Fin 1024) :
    k0_pay3 (F := Ideal) x0 x1 (View.ld x3 r0_2) x2 (View.ld x3 r0_3) x4 (ix2 i d)
      = normed (rowResid x0 x1 x2 x3 i) (fun k => x4 (ix2 0 k)) d := by
  refine (pay3_apply _ _ _ _ _ _ i d).trans (congrArg (normed · _ d) (funext fun k => ?_))
  exact pay2_row x0 x1 x2 x3 i k

/-- The four blocks the body stores, from the blocks it reads. -/
theorem out8_apply (x0 : Vec Ideal S512x1024 .f32) (x1 x2 : Vec Ideal S512x512 .bf16) (x3 : Vec Ideal S1024x1024 .bf16)
    (x4 : Vec Ideal S1x1024 .f32) (x5 : Vec Ideal S1024x2048 .bf16) (x6 x7 : Vec Ideal S8x128x128 .bf16) (i : Fin 512) (d : Fin 1024) :
    out0_8 (F := Ideal) x0 x1 x2 x3 x4 x5 x6 x7 (ix2 i d) = rowResid x0 x1 x2 x3 i d := by
  frame_out
  exact pay2_row x0 x1 x2 x3 i d
theorem out9_apply (x0 : Vec Ideal S512x1024 .f32) (x1 x2 : Vec Ideal S512x512 .bf16) (x3 : Vec Ideal S1024x1024 .bf16)
    (x4 : Vec Ideal S1x1024 .f32) (x5 : Vec Ideal S1024x2048 .bf16) (x6 x7 : Vec Ideal S8x128x128 .bf16) (i : Fin 512) (d : Fin 1024) :
    out0_9 (F := Ideal) x0 x1 x2 x3 x4 x5 x6 x7 (ix2 d i) = normed (rowResid x0 x1 x2 x3 i) (fun k => x4 (ix2 0 k)) d := by
  frame_out
  exact (pay4_apply _ _ _ _ _ _ i d).trans (pay3_row x0 x1 x2 x3 x4 i d)
theorem pay27_apply (x0 : Vec Ideal S512x1024 .f32) (x1 x2 : Vec Ideal S512x512 .bf16) (x3 : Vec Ideal S1024x1024 .bf16)
    (x4 : Vec Ideal S1x1024 .f32) (x5 : Vec Ideal S1024x2048 .bf16) (x6 x7 : Vec Ideal S8x128x128 .bf16) (i : Fin 512) (e : Fin 2048) :
    k0_pay27 (F := Ideal) x0 x1 x2 x3 x4 x5 x6 x7 (ix2 i e)
      = ∑ k : Fin 1024, normed (rowResid x0 x1 x2 x3 i) (fun k => x4 (ix2 0 k)) k * x5 (ix2 k e) := by
  unfold k0_pay27 k0_pay26
  simp only [ld_0, ld_1, ld_4, ld_6]
  rw [pay6_apply]
  exact Finset.sum_congr rfl fun k _ => congrArg (· * _) (pay3_row x0 x1 x2 x3 x4 i k)

variable (m : (ℓ : Loc nD τ sig) → Buf (Elt Ideal) ℓ) (ρ : Dev nD → PrngReg)

/-- What the region finds in the arrays that host operations prepare: the residual and the two groups with their tokens on one
    axis, the weights and keys (a change of format is the identity here), and the norm's weight as one row. -/
theorem V_main_v0 (c : Dev nD) (n : Fin 16384) (k : Fin 1024) :
    V m c main_v0 (ix2 n k) = m ((c : Thread nD τ).loc main_arg0) (ix3 (bat n) (pos n) k) := by
  show StableHlo.after hostOps0 _ (Proc.devRef .tc main_v0) _ = _
  after_results
  pointwise [bat, pos]
theorem V_main_v1 (c : Dev nD) (n : Fin 16384) (k : Fin 512) :
    V m c main_v1 (ix2 n k) = m ((c : Thread nD τ).loc main_arg1) (ix3 (bat n) (pos n) k) := by
  show StableHlo.after hostOps0 _ (Proc.devRef .tc main_v1) _ = _
  after_results
  pointwise [bat, pos]
theorem V_main_v2 (c : Dev nD) (n : Fin 16384) (k : Fin 512) :
    V m c main_v2 (ix2 n k) = m ((c : Thread nD τ).loc main_arg2) (ix3 (bat n) (pos n) k) := by
  show StableHlo.after hostOps0 _ (Proc.devRef .tc main_v2) _ = _
  after_results
  pointwise [bat, pos]
theorem V_main_v3 (c : Dev nD) (k l : Fin 1024) :
    V m c main_v3 (ix2 k l) = m ((c : Thread nD τ).loc main_arg3) (ix2 k l) := by
  show StableHlo.after hostOps0 _ (Proc.devRef .tc main_v3) _ = _
  after_results
  pointwise
theorem V_main_v4 (c : Dev nD) (k : Fin 1024) (l : Fin 2048) :
    V m c main_v4 (ix2 k l) = m ((c : Thread nD τ).loc main_arg5) (ix2 k l) := by
  show StableHlo.after hostOps0 _ (Proc.devRef .tc main_v4) _ = _
  after_results
  pointwise
theorem V_main_v5 (c : Dev nD) (h : Fin 8) (k l : Fin 128) :
    V m c main_v5 (ix3 h k l) = m ((c : Thread nD τ).loc main_arg6) (ix3 h k l) := by
  show StableHlo.after hostOps0 _ (Proc.devRef .tc main_v5) _ = _
  after_results
  pointwise
theorem V_main_v6 (c : Dev nD) (h : Fin 8) (k l : Fin 128) :
    V m c main_v6 (ix3 h k l) = m ((c : Thread nD τ).loc main_arg7) (ix3 h k l) := by
  show StableHlo.after hostOps0 _ (Proc.devRef .tc main_v6) _ = _
  after_results
  pointwise
theorem V_main_v7 (c : Dev nD) (k : Fin 1024) :
    V m c main_v7 (ix2 0 k) = m ((c : Thread nD τ).loc main_arg4) (ix1 k) := by
  show StableHlo.after hostOps0 _ (Proc.devRef .tc main_v7) _ = _
  after_results
  pointwise

/-- The windows' block indices: the token blocks move with the point, the weights and keys stay. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![0, 0, 0] ∧ win0_8.index t = ![t.val, 0] ∧ win0_9.index t = ![0, t.val]
    ∧ win0_10.index t = ![0, 0, t.val] ∧ win0_11.index t = ![0, 0, t.val] := by
  decide +kernel

/-- The row of the flat token axis that row `i` of point `t`'s block is. -/
def row (t : Fin cfg0.N) (i : Fin 512) : Fin 16384 :=
  ⟨t.val * 512 + i.val, by have h : t.val < 32 := t.isLt; omega⟩

/-- Point `t`'s input blocks, read off the arguments. -/
theorem iblk_0 (c : Dev nD) (t : Fin cfg0.N) (i : Fin 512) (k : Fin 1024) :
    iblk m c 0 t (ix2 i k) = m ((c : Thread nD τ).loc main_arg0) (ix3 (bat (row t i)) (pos (row t i)) k) := by
  rw [← V_main_v0 m c (row t i) k]
  blk_ext [iblk, row, idx t]
theorem iblk_1 (c : Dev nD) (t : Fin cfg0.N) (i : Fin 512) (k : Fin 512) :
    iblk m c 1 t (ix2 i k) = m ((c : Thread nD τ).loc main_arg1) (ix3 (bat (row t i)) (pos (row t i)) k) := by
  rw [← V_main_v1 m c (row t i) k]
  blk_ext [iblk, row, idx t]
theorem iblk_2 (c : Dev nD) (t : Fin cfg0.N) (i : Fin 512) (k : Fin 512) :
    iblk m c 2 t (ix2 i k) = m ((c : Thread nD τ).loc main_arg2) (ix3 (bat (row t i)) (pos (row t i)) k) := by
  rw [← V_main_v2 m c (row t i) k]
  blk_ext [iblk, row, idx t]
theorem iblk_3 (c : Dev nD) (t : Fin cfg0.N) (k l : Fin 1024) :
    iblk m c 3 t (ix2 k l) = m ((c : Thread nD τ).loc main_arg3) (ix2 k l) := by
  rw [← V_main_v3 m c k l]
  blk_ext [iblk, idx t]
theorem iblk_4 (c : Dev nD) (t : Fin cfg0.N) (k : Fin 1024) :
    iblk m c 4 t (ix2 0 k) = m ((c : Thread nD τ).loc main_arg4) (ix1 k) := by
  rw [← V_main_v7 m c k]
  blk_ext [iblk, idx t]
theorem iblk_5 (c : Dev nD) (t : Fin cfg0.N) (k : Fin 1024) (l : Fin 2048) :
    iblk m c 5 t (ix2 k l) = m ((c : Thread nD τ).loc main_arg5) (ix2 k l) := by
  rw [← V_main_v4 m c k l]
  blk_ext [iblk, idx t]
theorem iblk_6 (c : Dev nD) (t : Fin cfg0.N) (h : Fin 8) (k l : Fin 128) :
    iblk m c 6 t (ix3 h k l) = m ((c : Thread nD τ).loc main_arg6) (ix3 h k l) := by
  rw [← V_main_v5 m c h k l]
  blk_ext [iblk, idx t]
theorem iblk_7 (c : Dev nD) (t : Fin cfg0.N) (h : Fin 8) (k l : Fin 128) :
    iblk m c 7 t (ix3 h k l) = m ((c : Thread nD τ).loc main_arg7) (ix3 h k l) := by
  rw [← V_main_v6 m c h k l]
  blk_ext [iblk, idx t]

/-- A row of point `t`'s new residual and of its normalized rows are its token's. -/
theorem row_resid (c : Dev nD) (t : Fin cfg0.N) (i : Fin 512) :
    rowResid (iblk m c 0 t) (iblk m c 1 t) (iblk m c 2 t) (iblk m c 3 t) i = tokResid (m ((c : Thread nD τ).loc main_arg0)) (m ((c : Thread nD τ).loc main_arg1)) (m ((c : Thread nD τ).loc main_arg2)) (m ((c : Thread nD τ).loc main_arg3)) (row t i) := by
  funext d
  simp only [rowResid, tokResid, iblk_0, iblk_1, iblk_2, iblk_3]
theorem row_normed (c : Dev nD) (t : Fin cfg0.N) (i : Fin 512) :
    normed (rowResid (iblk m c 0 t) (iblk m c 1 t) (iblk m c 2 t) (iblk m c 3 t) i) (fun k => iblk m c 4 t (ix2 0 k))
      = tokNormed (m ((c : Thread nD τ).loc main_arg0)) (m ((c : Thread nD τ).loc main_arg1)) (m ((c : Thread nD τ).loc main_arg2)) (m ((c : Thread nD τ).loc main_arg3))
          (m ((c : Thread nD τ).loc main_arg4)) (row t i) := by
  simp only [row_resid, tokNormed, iblk_4]

/-- What the four result arrays are shown to hold. -/
abbrev val0 (c : Dev nD) : Buf (Elt Ideal) ((c : Thread nD τ).loc main_v8_0) :=
  result0 (m ((c : Thread nD τ).loc main_arg0)) (m ((c : Thread nD τ).loc main_arg1)) (m ((c : Thread nD τ).loc main_arg2)) (m ((c : Thread nD τ).loc main_arg3))
abbrev val1 (c : Dev nD) : Buf (Elt Ideal) ((c : Thread nD τ).loc main_v8_1) :=
  result1 (m ((c : Thread nD τ).loc main_arg0)) (m ((c : Thread nD τ).loc main_arg1)) (m ((c : Thread nD τ).loc main_arg2)) (m ((c : Thread nD τ).loc main_arg3))
    (m ((c : Thread nD τ).loc main_arg4))
abbrev val2 (c : Dev nD) : Buf (Elt Ideal) ((c : Thread nD τ).loc main_v8_2) :=
  result23 0 (by omega) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
abbrev val3 (c : Dev nD) : Buf (Elt Ideal) ((c : Thread nD τ).loc main_v8_3) :=
  result23 128 (by omega) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg7))

/-- The points' blocks tile each result array and each block is that of the value. -/
theorem final8 (c : Dev nD) : (dats m 0 c).arrAt 8 cfg0.N = val0 m c := by
  refine (dats m 0 c).arrAt_eq_of_covers 8 _ (by decide +kernel) fun t hf y => ?_
  blk_simp
  rw [after0_8]
  idx_vars y
  refine (out8_apply _ _ _ _ _ _ _ _ y0 y1).trans ?_
  rw [row_resid]
  have he : ((View.whole main_v8_0).slice (win0_8.rect t)).emb (ix2 y0 y1) = ix2 (row t y0) y1 := by
    blk_ext [row, idx t]
  rw [he]
  rfl
theorem final9 (c : Dev nD) : (dats m 0 c).arrAt 9 cfg0.N = val1 m c := by
  refine (dats m 0 c).arrAt_eq_of_covers 9 _ (by decide +kernel) fun t hf y => ?_
  blk_simp
  rw [after0_9]
  idx_vars y
  refine (out9_apply _ _ _ _ _ _ _ _ y1 y0).trans ?_
  rw [row_normed]
  have he : ((View.whole main_v8_1).slice (win0_9.rect t)).emb (ix2 y0 y1) = ix2 y0 (row t y1) := by
    blk_ext [row, idx t]
  rw [he]
  rfl
theorem final10 (c : Dev nD) : (dats m 0 c).arrAt 10 cfg0.N = val2 m c := by
  refine (dats m 0 c).arrAt_eq_of_covers 10 _ (by decide +kernel) fun t hf y => ?_
  blk_simp
  rw [after0_10]
  idx_vars y
  refine (out10_apply _ _ _ _ _ _ _ _ y0 y1 y2).trans ?_
  have he : ((View.whole main_v8_2).slice (win0_10.rect t)).emb (ix3 y0 y1 y2) = ix3 y0 y1 (row t y2) := by
    blk_ext [row, idx t]
  rw [he]
  simp only [score, pay27_apply, row_normed, iblk_5, iblk_6]
  rfl
theorem final11 (c : Dev nD) : (dats m 0 c).arrAt 11 cfg0.N = val3 m c := by
  refine (dats m 0 c).arrAt_eq_of_covers 11 _ (by decide +kernel) fun t hf y => ?_
  blk_simp
  rw [after0_11]
  idx_vars y
  refine (out11_apply _ _ _ _ _ _ _ _ y0 y1 y2).trans ?_
  have he : ((View.whole main_v8_3).slice (win0_11.rect t)).emb (ix3 y0 y1 y2) = ix3 y0 y1 (row t y2) := by
    blk_ext [row, idx t]
  rw [he]
  simp only [score, pay27_apply, row_normed, iblk_5, iblk_7]
  rfl

/-- The kernel leaves the four values in its result arrays and its arguments as they were. -/
theorem run : θ_run defs (onTc (τ := τ) (main (F := Ideal))) ⟨m, fun _ => 0, ρ⟩ fun r => ∀ c : Dev nD,
      r.2.mem ((c : Thread nD τ).loc main_v8_0) = val0 m c
      ∧ r.2.mem ((c : Thread nD τ).loc main_v8_1) = val1 m c
      ∧ r.2.mem ((c : Thread nD τ).loc main_v8_2) = val2 m c
      ∧ r.2.mem ((c : Thread nD τ).loc main_v8_3) = val3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c), (h c).2.1.trans (final9 m c),
    (h c).2.2.1.trans (final10 m c), (h c).2.2.2.1.trans (final11 m c), (h c).2.2.2.2⟩) (Value.run_blocks m ρ)

end Cert.Kernel3Ideal.RefValue

/-! ## The reference -/

namespace Cert.Reference3Ideal.RefValue

open Cert.Reference3Ideal Cert.Reference3Ideal.Gen Cert.Reference3Ideal.Read Cert.Proof.FinalSpec Cert.Proof.OutSpec

variable (x : Vec Ideal S8x2048x1024 .f32) (a r : Vec Ideal S8x2048x512 .bf16) (w : Vec Ideal S1024x1024 .f32)
  (g : Vec Ideal S1024 .f32) (p : Vec Ideal S1024x2048 .f32) (k1 k2 : Vec Ideal S8x128x128 .f32)

/-- The reference's residual, normalized residual and queries, at sequence `b` and position `t`. -/
theorem v3_apply (b : Fin 8) (t : Fin 2048) (d : Fin 1024) :
    val_main_v3 (F := Ideal) x a r w (ix3 b t d)
      = resid (fun k => x (ix3 b t k)) (fun k => a (ix3 b t k)) (fun k => r (ix3 b t k)) (fun k l => w (ix2 k l)) d := by
  pointwise [val_main_v0, val_main_v1, val_main_v2, val_main_v3, resid, mixed]
theorem v16_apply (b : Fin 8) (t : Fin 2048) (d : Fin 1024) :
    val_main_v16 (F := Ideal) x a r w g (ix3 b t d)
      = normed (fun k => val_main_v3 (F := Ideal) x a r w (ix3 b t k)) (fun k => g (ix1 k)) d := by
  pointwise [val_main_v4, val_main_v5, val_main_v6, val_main_v7, val_main_v8, val_main_v9, val_main_v10, val_main_v11, val_main_v12, val_main_v13, val_main_v14, val_main_v15, val_main_v16, val_main_cst, val_main_cst_0, val_main_cst_1, normed]
theorem v17_apply (b : Fin 8) (t : Fin 2048) (e : Fin 2048) :
    val_main_v17 (F := Ideal) x a r w g p (ix3 b t e)
      = ∑ k : Fin 1024, val_main_v16 (F := Ideal) x a r w g (ix3 b t k) * p (ix2 k e) := by
  pointwise [val_main_v17]

/-- The two halves of a head's lanes. -/
theorem v20_apply (b : Fin 8) (t : Fin 2048) (h : Fin 8) (d : Fin 128) :
    val_main_v20 (F := Ideal) x a r w g p (ix4 b t h d)
      = val_main_v17 (F := Ideal) x a r w g p (ix3 b t ⟨h.val * 256 + 0 + d.val, by omega⟩) := by
  pointwise [val_main_v18, val_main_v19, val_main_v20]
theorem v24_apply (b : Fin 8) (t : Fin 2048) (h : Fin 8) (d : Fin 128) :
    val_main_v24 (F := Ideal) x a r w g p (ix4 b t h d)
      = val_main_v17 (F := Ideal) x a r w g p (ix3 b t ⟨h.val * 256 + 128 + d.val, by omega⟩) := by
  pointwise [val_main_v18, val_main_v23, val_main_v24]

/-- The scores, and the results' layout. -/
theorem v32_apply (h : Fin 8) (j : Fin 128) (n : Fin 16384) :
    val_main_v32 (F := Ideal) x a r w g p k1 (ix3 h j n)
      = ∑ d : Fin 128, k1 (ix3 h j d) * val_main_v20 (F := Ideal) x a r w g p (ix4 (bat n) (pos n) h d) := by
  pointwise [val_main_v21, val_main_v22, val_main_v31, val_main_v32, bat, pos]
theorem v34_apply (h : Fin 8) (j : Fin 128) (n : Fin 16384) :
    val_main_v34 (F := Ideal) x a r w g p k2 (ix3 h j n)
      = ∑ d : Fin 128, k2 (ix3 h j d) * val_main_v24 (F := Ideal) x a r w g p (ix4 (bat n) (pos n) h d) := by
  pointwise [val_main_v25, val_main_v26, val_main_v33, val_main_v34, bat, pos]
theorem v27_apply (n : Fin 16384) (d : Fin 1024) :
    val_main_v27 (F := Ideal) x a r w (ix2 n d) = val_main_v3 (F := Ideal) x a r w (ix3 (bat n) (pos n) d) := by
  pointwise [val_main_v27, bat, pos]
theorem v30_apply (n : Fin 16384) (d : Fin 1024) :
    val_main_v30 (F := Ideal) x a r w g (ix2 d n) = val_main_v16 (F := Ideal) x a r w g (ix3 (bat n) (pos n) d) := by
  pointwise [val_main_v28, val_main_v29, val_main_v30, bat, pos]

/-- The residual and the normalized residual of a row of the flat token axis. -/
theorem tok_resid (n : Fin 16384) (d : Fin 1024) :
    val_main_v3 (F := Ideal) x a r w (ix3 (bat n) (pos n) d) = tokResid x a r w n d := v3_apply x a r w _ _ d
theorem tok_normed (n : Fin 16384) (d : Fin 1024) :
    val_main_v16 (F := Ideal) x a r w g (ix3 (bat n) (pos n) d) = tokNormed x a r w g n d := by
  rw [v16_apply, tokNormed]
  exact congrArg (normed · _ d) (funext fun k => tok_resid x a r w n k)

/-- The reference's four results are those of the kernel. -/
theorem ref_0 (j : S16384x1024.Idx) : val_main_v27 (F := Ideal) x a r w j = result0 x a r w j := by
  idx_vars j
  exact (v27_apply x a r w j0 j1).trans (tok_resid x a r w j0 j1)
theorem ref_1 (j : S1024x16384.Idx) : val_main_v30 (F := Ideal) x a r w g j = result1 x a r w g j := by
  idx_vars j
  exact (v30_apply x a r w g j1 j0).trans (tok_normed x a r w g j1 j0)
theorem ref_2 (j : S8x128x16384.Idx) :
    val_main_v32 (F := Ideal) x a r w g p k1 j = result23 0 (by omega) x a r w g p k1 j := by
  idx_vars j
  refine (v32_apply x a r w g p k1 j0 j1 j2).trans ?_
  show _ = tokScore x a r w g p k1 _ _ j0 j1 j2
  unfold tokScore
  refine Finset.sum_congr rfl fun d _ => congrArg (_ * ·) ?_
  refine (v20_apply x a r w g p _ _ _ _).trans ((v17_apply x a r w g p _ _ _).trans (Finset.sum_congr rfl fun k _ => ?_))
  exact congrArg (· * _) (tok_normed x a r w g j2 k)
theorem ref_3 (j : S8x128x16384.Idx) :
    val_main_v34 (F := Ideal) x a r w g p k2 j = result23 128 (by omega) x a r w g p k2 j := by
  idx_vars j
  refine (v34_apply x a r w g p k2 j0 j1 j2).trans ?_
  show _ = tokScore x a r w g p k2 _ _ j0 j1 j2
  unfold tokScore
  refine Finset.sum_congr rfl fun d _ => congrArg (_ * ·) ?_
  refine (v24_apply x a r w g p _ _ _ _).trans ((v17_apply x a r w g p _ _ _).trans (Finset.sum_congr rfl fun k _ => ?_))
  exact congrArg (· * _) (tok_normed x a r w g j2 k)

end Cert.Reference3Ideal.RefValue

/-! ## The claims -/

namespace Cert.Proof.OutClaims

open Idealize.ShloMosaic Idealize.ShloMosaic.TcCoe Idealize.SL.Sem

/-- The output projection's program runs to the end and keeps its arguments, at bits and at the ideal instance, and so does
    its reference. -/
theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

/-- At the ideal instance the kernel's four results and the reference's are the same functions of arguments that agree. -/
theorem algebraic : Cert.algebraic_Kernel3Ideal_Reference3Ideal := by
  intro m ρ m' ρ' _ hagree
  refine ⟨fun c => Cert.Kernel3Ideal.RefValue.val0 m c, fun c => Cert.Kernel3Ideal.RefValue.val1 m c,
    fun c => Cert.Kernel3Ideal.RefValue.val2 m c, fun c => Cert.Kernel3Ideal.RefValue.val3 m c,
    Cert.Kernel3Ideal.RefValue.run m ρ, ?_⟩
  refine (θ_run Cert.Reference3Ideal.defs _ _).mono (fun _ h c => ⟨(h c).1.trans ?_, (h c).2.1.trans ?_,
    (h c).2.2.1.trans ?_, (h c).2.2.2.1.trans ?_, (h c).2.2.2.2⟩) (Cert.Reference3Ideal.Value.run (F := Ideal) m' ρ')
  all_goals obtain ⟨h0, h1, h2, h3, h4, h5, h6, h7⟩ := hagree c
  all_goals rw [h0, h1, h2, h3]
  · exact (Cert.Reference3Ideal.Read.val_main_v27_eq _ _ _ _).trans
      (funext (Cert.Reference3Ideal.RefValue.ref_0 _ _ _ _))
  · rw [h4]
    exact (Cert.Reference3Ideal.Read.val_main_v30_eq _ _ _ _ _).trans
      (funext (Cert.Reference3Ideal.RefValue.ref_1 _ _ _ _ _))
  · rw [h4, h5, h6]
    exact (Cert.Reference3Ideal.Read.val_main_v32_eq _ _ _ _ _ _ _).trans
      (funext (Cert.Reference3Ideal.RefValue.ref_2 _ _ _ _ _ _ _))
  · rw [h4, h5, h7]
    exact (Cert.Reference3Ideal.Read.val_main_v34_eq _ _ _ _ _ _ _).trans
      (funext (Cert.Reference3Ideal.RefValue.ref_3 _ _ _ _ _ _ _))

end Cert.Proof.OutClaims
end
-- ==== Proof.InSpec.lean ====
/-
  What the input projection computes of a token, as functions of the arguments: the normalized token projected, its groups of
  columns turned by the position's angles, the latent queries, the normalized latent, the indexer's queries, key and weights.
-/
module

public import proofs.«01_k».proof.Defs
public import proofs.«01_k».proof.Proof.Final

@[expose] public section

noncomputable section

open Idealize.ShloMosaic Idealize.ShloMosaic.TcCoe Idealize.SL.Sem

namespace Cert.Proof.InSpec

open Cert.Proof.FinalSpec

/-- Column `e` of row `k` of the projection's weight; nothing past the last column. -/
def wAt (w : (⟨2, ![1024, 2280]⟩ : Shape).Idx → EReal) (k : Fin 1024) (e : ℕ) : EReal :=
  if h : e < 2280 then w (ix2 k ⟨e, h⟩) else 0

theorem eq_wAt (w : (⟨2, ![1024, 2280]⟩ : Shape).Idx → EReal) (k : Fin 1024) (e : ℕ) (h : e < 2280) (e' : ℕ) (he : e = e') :
    w (ix2 k ⟨e, h⟩) = wAt w k e' := by
  subst he
  unfold wAt
  rw [dif_pos h]

/-- A vector of 128 latent features divided by its root mean square, at feature `d`, times the weight `g d`. -/
def normedLatent (v g : Fin 128 → EReal) (d : Fin 128) : EReal :=
  v d * Ideal.rsqrt (Ideal.div (∑ k : Fin 128, v k * v k) (Ideal.ofBits .f32 0x43000000#32)
    + Ideal.ofBits .f32 0x358637BD#32) * g d

/-- Column `e` of token `n`'s projection. -/
def proj (x : (⟨3, ![8, 2048, 1024]⟩ : Shape).Idx → EReal) (g : (⟨1, ![1024]⟩ : Shape).Idx → EReal)
    (w : (⟨2, ![1024, 2280]⟩ : Shape).Idx → EReal) (n : Fin 16384) (e : ℕ) : EReal :=
  ∑ k : Fin 1024, normed (fun k => x (ix3 (bat n) (pos n) k)) (fun k => g (ix1 k)) k * wAt w k e

/-- The frequency of pair `i` of the rotation over `dim` features (given by its bits), and the angle of token `n` at it. -/
def freq (dim : BitVec 32) (i : ℕ) : EReal :=
  Ideal.pow (Ideal.ofBits .f32 0x48F42400#32)
    (Ideal.div (-(Ideal.ofBits .f32 0x40000000#32 * FloatOps.sitofp (F := Ideal) .f32 (BitVec.ofNat 32 i))) (Ideal.ofBits .f32 dim))
def angle (t : (⟨2, ![8, 2048]⟩ : Shape).Idx → BitVec 32) (dim : BitVec 32) (n : Fin 16384) (i : ℕ) : EReal :=
  FloatOps.sitofp (F := Ideal) .f32 (t (ix2 (bat n) (pos n))) * freq dim i

/-- The features of `p` where the first `half` are paired with the next `half` and each pair is turned by its angle `a`. -/
def rotated (half : ℕ) (p a : ℕ → EReal) (j : ℕ) : EReal :=
  if j < half then p j * Ideal.cos (a j) - p (half + j) * Ideal.sin (a j)
  else p j * Ideal.cos (a (j - half)) + p (j - half) * Ideal.sin (a (j - half))

section Results

variable (x : (⟨3, ![8, 2048, 1024]⟩ : Shape).Idx → EReal) (t : (⟨2, ![8, 2048]⟩ : Shape).Idx → BitVec 32)
  (g : (⟨1, ![1024]⟩ : Shape).Idx → EReal) (w : (⟨2, ![1024, 2280]⟩ : Shape).Idx → EReal)
  (u : (⟨3, ![4, 128, 96]⟩ : Shape).Idx → EReal) (gk : (⟨1, ![128]⟩ : Shape).Idx → EReal)

/-- Lane `l` of token `n`'s query at head `h`: the latent query, then the four heads' groups of 32 lanes, of which the head's
    own holds its rotated query and the others zeros. -/
def query (h : Fin 4) (n : Fin 16384) (l : ℕ) : EReal :=
  if hl : l < 128 then ∑ d : Fin 96, u (ix3 h ⟨l, hl⟩ d) * proj x g w n (h.val * 128 + (32 + d.val))
  else if (l - 128) / 32 = h.val then
    rotated 16 (fun e => proj x g w n (h.val * 128 + e)) (angle t 0x42000000#32 n) ((l - 128) % 32)
  else 0

/-- Lane `l` of its key and value: the normalized latent, then the rotated key four times. -/
def keyValue (n : Fin 16384) (l : ℕ) : EReal :=
  if hl : l < 128 then normedLatent (fun d => proj x g w n (512 + d.val)) (fun d => gk (ix1 d)) ⟨l, hl⟩
  else rotated 16 (fun e => proj x g w n (640 + e)) (angle t 0x42000000#32 n) ((l - 128) % 32)

/-- Feature `j` of an indexer vector of 64 features whose columns start at `o`: the first 16 rotated, the others as projected. -/
def partly (o : ℕ) (n : Fin 16384) (j : ℕ) : EReal :=
  if j < 16 then rotated 8 (fun e => proj x g w n (o + e)) (angle t 0x41800000#32 n) j else proj x g w n (o + j)

/-- Its indexer weights, scaled; zeros past the eighth. -/
def weight (n : Fin 16384) (l : ℕ) : EReal :=
  if l < 8 then proj x g w n (1248 + l) * Ideal.ofBits .f32 0x3D3504F3#32 else 0

/-- The seven results as arrays. -/
def result0 : (⟨3, ![4, 16384, 256]⟩ : Shape).Idx → EReal := fun i => query x t g w u (i 0) (i 1) (i 2).val
def result1 : (⟨2, ![16384, 256]⟩ : Shape).Idx → EReal := fun i => keyValue x t g w gk (i 0) (i 1).val
def result2 : (⟨2, ![16384, 512]⟩ : Shape).Idx → EReal :=
  fun i => partly x t g w (672 + (i 1).val / 64 * 64) (i 0) ((i 1).val % 64)
def result3 : (⟨2, ![16384, 128]⟩ : Shape).Idx → EReal := fun i => partly x t g w 1184 (i 0) ((i 1).val % 64)
def result4 : (⟨2, ![16384, 128]⟩ : Shape).Idx → EReal := fun i => weight x g w (i 0) (i 1).val
def result56 (o : ℕ) : (⟨2, ![16384, 512]⟩ : Shape).Idx → EReal := fun i => proj x g w (i 0) (o + (i 1).val)

end Results

end Cert.Proof.InSpec
-- ==== Proof.InFinite.lean ====
/-
  Sums of reals among the extended reals: the normalized token is real where the norm's weight is, and a projection with negated weights
  is then the projection negated.
-/
module

public import proofs.«01_k».proof.Defs
public import proofs.«01_k».proof.Proof.InSpec
public import Idealize.ShloMosaic.Lib.ReduceAll

@[expose] public section

set_option maxRecDepth 16384

noncomputable section

open Idealize.ShloMosaic Idealize.ShloMosaic.TcCoe Idealize.SL.Sem

namespace Cert.Proof.InSpec

open Cert.Proof.FinalSpec

/-- A sum of reals is the real sum. -/
theorem sum_coe {n : ℕ} (a : Fin n → ℝ) : ∑ k, ((a k : ℝ) : EReal) = ((∑ k, a k : ℝ) : EReal) := by
  induction (Finset.univ : Finset (Fin n)) using Finset.induction_on with
  | empty => simp
  | insert i s hi ih => rw [Finset.sum_insert hi, Finset.sum_insert hi, ih, EReal.coe_add]

/-- Negated weights give the negated sum of products, where both factors are real. -/
theorem sum_neg {n : ℕ} (h w : Fin n → EReal) (hh : ∀ k, ∃ r : ℝ, h k = r) (hw : ∀ k, ∃ r : ℝ, w k = r) :
    ∑ k, h k * -(w k) = -∑ k, h k * w k := by
  choose a ha using hh
  choose b hb using hw
  have e (k) : h k * -(w k) = ((-(a k * b k) : ℝ) : EReal) := by
    rw [ha, hb, ← EReal.coe_neg, ← EReal.coe_mul, mul_neg]
  have e' (k) : h k * w k = ((a k * b k : ℝ) : EReal) := by rw [ha, hb, ← EReal.coe_mul]
  simp only [e, e']
  rw [sum_coe, sum_coe, ← EReal.coe_neg, Finset.sum_neg_distrib]

theorem ofBits_1024 : Ideal.ofBits .f32 0x44800000#32 = ((1024 : ℝ) : EReal) := by
  simp [Ideal.ofBits, Ideal.ieee, -EReal.coe_mul]
  norm_num

/-- The number added to a mean of squares is a positive real. -/
theorem ofBits_eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- A square is not negative. -/
theorem square_nonneg (x : EReal) : 0 ≤ x * x := by
  induction x with
  | bot => simp
  | top => simp
  | coe r => rw [← EReal.coe_mul]; exact_mod_cast mul_self_nonneg r

/-- A vector with an infinite entry has an infinite sum of squares. -/
theorem squares_top (v : Fin 1024 → EReal) (k : Fin 1024) (h : ¬∃ r : ℝ, v k = r) : ∑ k, v k * v k = ⊤ := by
  have e : v k * v k = ⊤ := by
    generalize v k = x at h
    induction x with
    | bot => simp
    | top => simp
    | coe r => exact absurd ⟨r, rfl⟩ h
  have l : v k * v k ≤ ∑ k, v k * v k := Finset.single_le_sum (f := fun k => v k * v k) (fun i _ => square_nonneg (v i)) (Finset.mem_univ k)
  exact top_le_iff.1 (e ▸ l)

/-- The normalized vector is real where the weight is: with an infinite entry the vector is divided by infinity, which gives zeros. -/
theorem normed_real (v g : Fin 1024 → EReal) (hg : ∀ k, ∃ r : ℝ, g k = r) (k : Fin 1024) : ∃ r : ℝ, normed v g k = r := by
  obtain ⟨e, he, hE⟩ := ofBits_eps
  by_cases hv : ∀ k, ∃ r : ℝ, v k = r
  · choose a ha using hv
    choose b hb using hg
    have hs : ∑ k, v k * v k = ((∑ k, a k * a k : ℝ) : EReal) := by
      rw [← sum_coe]
      exact Finset.sum_congr rfl fun k _ => by rw [ha, ← EReal.coe_mul]
    have h0 : 0 < (∑ k, a k * a k) * (1 / 1024) + e :=
      add_pos_of_nonneg_of_pos (mul_nonneg (Finset.sum_nonneg fun k _ => mul_self_nonneg _) (by norm_num)) he
    unfold normed
    rw [hs, ofBits_1024, Ideal.div_coe (by norm_num), hE, ← EReal.coe_mul, ← EReal.coe_add, Ideal.rsqrt_coe,
      if_neg (not_lt.2 h0.le), if_neg h0.ne', ha, hb, ← EReal.coe_mul, ← EReal.coe_mul]
    exact ⟨_, rfl⟩
  · obtain ⟨i, hi⟩ := not_forall.1 hv
    refine ⟨0, ?_⟩
    unfold normed
    rw [squares_top v i hi, ofBits_1024, Ideal.div_coe (by norm_num), hE, EReal.top_mul_coe_of_pos (by norm_num), EReal.top_add_coe,
      Ideal.rsqrt_top, mul_zero, zero_mul, EReal.coe_zero]

/-- A number whose absolute value is below infinity is real. -/
theorem real_of_lt (x : EReal) (h : Ideal.cmp .olt (max x (-x)) (Ideal.ofBits .f32 0x7F800000#32) = 1#1) :
    ∃ r : ℝ, x = r := by
  induction x with
  | bot => exact absurd h (by simp [Ideal.cmp, Ideal.ofBits, Ideal.ieee])
  | top => exact absurd h (by simp [Ideal.cmp, Ideal.ofBits, Ideal.ieee])
  | coe r => exact ⟨r, rfl⟩

/-- The norm's weight and the projection's weight are real numbers. -/
def Finite (g : (⟨1, ![1024]⟩ : Shape).Idx → EReal) (w : (⟨2, ![1024, 2280]⟩ : Shape).Idx → EReal) : Prop :=
  (∀ i, ∃ r : ℝ, g i = r) ∧ ∀ i, ∃ r : ℝ, w i = r

/-- What the precondition says: the two weights' absolute values are below infinity at every index. -/
theorem finite_of_fn [Cert.Pre_finite_weights.Facts] (x : FVec Ideal Cert.Pre_finite_weights.S8x2048x1024 .f32)
    (t : IVec Cert.Pre_finite_weights.S8x2048 32) (g : FVec Ideal Cert.Pre_finite_weights.S1024 .f32)
    (w : FVec Ideal Cert.Pre_finite_weights.S1024x2280 .f32) (u : FVec Ideal Cert.Pre_finite_weights.S4x128x96 .f32)
    (gk : FVec Ideal Cert.Pre_finite_weights.S128 .f32) (h : Cert.Pre_finite_weights.fn (F := Ideal) x t g w u gk = fun _ => 1#1) :
    Finite g w := by
  have e := congrFun h (fun a => a.elim0)
  unfold Cert.Pre_finite_weights.fn at e
  obtain ⟨eg, ew⟩ := IntOp.andi_eq_one.1 e
  haveI : Subsingleton Cert.Pre_finite_weights.S_.Idx := ⟨fun a b => funext fun k => k.elim0⟩
  exact ⟨fun i => real_of_lt _ (Host.reduce_andi_all _ _ _ _ _ eg i), fun i => real_of_lt _ (Host.reduce_andi_all _ _ _ _ _ ew i)⟩

end Cert.Proof.InSpec
-- ==== Proof.InBody.lean ====
/-
  What the body of the input projection stores, read at an index: every result's block in terms of the block's projection, the
  angles' cosines and sines and the latent queries.
-/
module

public import proofs.«01_k».proof.Defs
public import proofs.«01_k».proof.Proof.InSpec
public import proofs.«01_k».proof.Proof.Gen.Kernel4Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.RefValue

open Cert.Kernel4Ideal Cert.Kernel4Ideal.Gen Cert.Proof.FinalSpec Cert.Proof.InSpec

/-- The block's rows normalized and projected. -/
theorem pay7_apply (x : Vec Ideal S512x1024 .f32) (g : Vec Ideal S1x1024 .f32) (w : Vec Ideal S1024x3456 .bf16) (i : Fin 512) (e : Fin 3456) :
    k0_pay7 (F := Ideal) x g w (ix2 i e)
      = ∑ k : Fin 1024, normed (fun k => x (ix2 i k)) (fun k => g (ix2 0 k)) k * w (ix2 k e) := by
  pointwise [k0_pay7, normed]
/-- The cosines and sines of the rows' positions times the lanes' frequencies. -/
theorem pay9_apply (p : Vec Ideal S512x1 .f32) (f : Vec Ideal S1x128 .f32) (i : Fin 512) (l : Fin 128) :
    k0_pay9 (F := Ideal) p f (ix2 i l) = Ideal.cos (p (ix2 i 0) * f (ix2 0 l)) := by
  pointwise [k0_pay9, k0_pay8, k0_pay6]
theorem pay10_apply (p : Vec Ideal S512x1 .f32) (f : Vec Ideal S1x128 .f32) (i : Fin 512) (l : Fin 128) :
    k0_pay10 (F := Ideal) p f (ix2 i l) = Ideal.sin (p (ix2 i 0) * f (ix2 0 l)) := by
  pointwise [k0_pay10, k0_pay8, k0_pay6]
theorem pay12_apply (p : Vec Ideal S512x1 .f32) (f : Vec Ideal S1x128 .f32) (i : Fin 512) (l : Fin 128) :
    k0_pay12 (F := Ideal) p f (ix2 i l) = Ideal.cos (p (ix2 i 0) * f (ix2 0 l)) := by
  pointwise [k0_pay12, k0_pay11, k0_pay6]
theorem pay13_apply (p : Vec Ideal S512x1 .f32) (f : Vec Ideal S1x128 .f32) (i : Fin 512) (l : Fin 128) :
    k0_pay13 (F := Ideal) p f (ix2 i l) = Ideal.sin (p (ix2 i 0) * f (ix2 0 l)) := by
  pointwise [k0_pay13, k0_pay11, k0_pay6]

variable (y : FVec Ideal S512x3456 .f32) (c s : FVec Ideal S512x128 .f32)

/-- Columns `o` on of the projection times the cosines plus columns `o'` on times the sines, at lane `l`. -/
def turned (o o' : ℕ) (ho : o + 128 ≤ 3456) (ho' : o' + 128 ≤ 3456) (i : Fin 512) (l : Fin 128) : EReal :=
  y (ix2 i ⟨o + l.val, by omega⟩) * c (ix2 i l) + y (ix2 i ⟨o' + l.val, by omega⟩) * s (ix2 i l)

theorem pay17_apply (i : Fin 512) (l : Fin 128) :
    k0_pay17 (F := Ideal) y c s (ix2 i l) = turned y c s 384 512 (by omega) (by omega) i l := by
  pointwise [k0_pay17, turned]
theorem pay31_apply (i : Fin 512) (l : Fin 128) :
    k0_pay31 (F := Ideal) y c s (ix2 i l) = turned y c s 768 896 (by omega) (by omega) i l := by
  pointwise [k0_pay31, turned]
theorem pay32_apply (i : Fin 512) (l : Fin 128) :
    k0_pay32 (F := Ideal) y c s (ix2 i l) = turned y c s 1024 1536 (by omega) (by omega) i l := by
  pointwise [k0_pay32, turned]
theorem pay33_apply (i : Fin 512) (l : Fin 128) :
    k0_pay33 (F := Ideal) y c s (ix2 i l) = turned y c s 1152 1664 (by omega) (by omega) i l := by
  pointwise [k0_pay33, turned]
theorem pay34_apply (i : Fin 512) (l : Fin 128) :
    k0_pay34 (F := Ideal) y c s (ix2 i l) = turned y c s 1280 1792 (by omega) (by omega) i l := by
  pointwise [k0_pay34, turned]
theorem pay1_apply (i : Fin 512) (l : Fin 128) :
    k0_pay1 (F := Ideal) (k0_pay35 y c) (k0_pay36 y s) (ix2 i l) = turned y c s 1408 1920 (by omega) (by omega) i l := by
  pointwise [k0_pay1, k0_pay35, k0_pay36, turned]
theorem pay2_apply (i : Fin 512) (l : Fin 128) :
    k0_pay2 (F := Ideal) y c s (ix2 i l) = turned y c s 2048 2176 (by omega) (by omega) i l := by
  pointwise [k0_pay2, turned]
/-- The normalized latent. -/
theorem pay30_apply (g : Vec Ideal S1x128 .f32) (i : Fin 512) (l : Fin 128) :
    k0_pay30 (F := Ideal) (k0_pay27 y) (k0_pay28 g) (k0_pay29 y) (ix2 i l)
      = normedLatent (fun l => y (ix2 i ⟨640 + l.val, by omega⟩)) (fun l => g (ix2 0 l)) l := by
  pointwise [k0_pay30, k0_pay27, k0_pay28, k0_pay29, normedLatent]
/-- The indexer's weights scaled, and the recurrence's two inputs. -/
theorem pay3_apply (i : Fin 512) (l : Fin 128) :
    k0_pay3 (F := Ideal) y (ix2 i l) = y (ix2 i ⟨2304 + l.val, by omega⟩) * Ideal.ofBits .f32 0x3D3504F3#32 := by
  pointwise [k0_pay3]
theorem pay4_apply (i : Fin 512) (l : Fin 512) : k0_pay4 (F := Ideal) y (ix2 i l) = y (ix2 i ⟨2432 + l.val, by omega⟩) := by
  pointwise [k0_pay4]
theorem pay5_apply (i : Fin 512) (l : Fin 512) : k0_pay5 (F := Ideal) y (ix2 i l) = y (ix2 i ⟨2944 + l.val, by omega⟩) := by
  pointwise [k0_pay5]
/-- The latent queries: the heads' columns without position, projected by the latent weight. -/
theorem pay16_apply (x : Vec Ideal S512x1024 .f32) (g : Vec Ideal S1x1024 .f32) (w : Vec Ideal S1024x3456 .bf16) (u : Vec Ideal S384x512 .bf16) (i l : Fin 512) :
    k0_pay16 (F := Ideal) (k0_pay14 x g w) (k0_pay15 u) (constant S512x512 .f32 0x00000000#32) (ix2 i l)
      = ∑ j : Fin 384, k0_pay7 (F := Ideal) x g w (ix2 i ⟨j.val, by omega⟩) * u (ix2 j l) := by
  pointwise [k0_pay16, k0_pay14, k0_pay15]

/-- The group of 32 lanes a lane is in, as the body computes it and compares it with a head. -/
theorem lane_head : ∀ l : Fin 128, ∀ h : Fin 4,
    IntOp.cmpi .eq (IntOp.shrsi ArithUnit.vector (BitVec.ofNat 32 l.val) 5#32) (BitVec.ofNat 32 h.val) = if l.val / 32 = h.val then 1#1 else 0#1 := by
  decide +kernel

/-- A head's lanes of latent query: 128 columns of the latent queries. -/
theorem pay18_apply (a : FVec Ideal S512x384 .bf16) (u : FVec Ideal S384x512 .bf16) (q : FVec Ideal S512x512 .f32) (z : Fin 1) (i : Fin 512) (l : Fin 128) :
    k0_pay18 (F := Ideal) a u q (ix3 z i l) = k0_pay16 (F := Ideal) a u q (ix2 i ⟨0 + l.val, by omega⟩) := by
  pointwise [k0_pay18]
theorem pay20_apply (a : FVec Ideal S512x384 .bf16) (u : FVec Ideal S384x512 .bf16) (q : FVec Ideal S512x512 .f32) (z : Fin 1) (i : Fin 512) (l : Fin 128) :
    k0_pay20 (F := Ideal) a u q (ix3 z i l) = k0_pay16 (F := Ideal) a u q (ix2 i ⟨128 + l.val, by omega⟩) := by
  pointwise [k0_pay20]
theorem pay23_apply (a : FVec Ideal S512x384 .bf16) (u : FVec Ideal S384x512 .bf16) (q : FVec Ideal S512x512 .f32) (z : Fin 1) (i : Fin 512) (l : Fin 128) :
    k0_pay23 (F := Ideal) (k0_pay22 a u q) (ix3 z i l) = k0_pay16 (F := Ideal) a u q (ix2 i ⟨256 + l.val, by omega⟩) := by
  pointwise [k0_pay23, k0_pay22]
theorem pay25_apply (q : FVec Ideal S512x512 .f32) (z : Fin 1) (i : Fin 512) (l : Fin 128) :
    k0_pay25 (F := Ideal) q (ix3 z i l) = q (ix2 i ⟨384 + l.val, by omega⟩) := by
  pointwise [k0_pay25]

/-- A head's lanes of rotated query: the head's own group of 32 lanes, zeros elsewhere. -/
theorem pay19_apply (z : Fin 1) (i : Fin 512) (l : Fin 128) :
    k0_pay19 (F := Ideal) y c s (ix3 z i l) = if l.val / 32 = 0 then k0_pay17 (F := Ideal) y c s (ix2 i l) else 0 := by
  pointwise [k0_pay19]
  have e : IntOp.cmpi .eq (IntOp.shrsi ArithUnit.vector (BitVec.ofNat 32 l.val) 5#32) 0#32 = _ := lane_head l 0
  rw [e]
  simp only [Fin.val_zero]
  split_ifs <;> rfl
theorem pay21_apply (z : Fin 1) (i : Fin 512) (l : Fin 128) :
    k0_pay21 (F := Ideal) y c s (ix3 z i l) = if l.val / 32 = 1 then k0_pay17 (F := Ideal) y c s (ix2 i l) else 0 := by
  pointwise [k0_pay21]
  have e : IntOp.cmpi .eq (IntOp.shrsi ArithUnit.vector (BitVec.ofNat 32 l.val) 5#32) 1#32 = if l.val / 32 = 1 then 1#1 else 0#1 := lane_head l 1
  rw [e]
  split_ifs <;> rfl
theorem pay24_apply (q : FVec Ideal S512x128 .f32) (z : Fin 1) (i : Fin 512) (l : Fin 128) :
    k0_pay24 (F := Ideal) q (iota .tc S512x128 32 [1] iota_S512x128_d1_w32) (ix3 z i l) = if l.val / 32 = 2 then q (ix2 i l) else 0 := by
  pointwise [k0_pay24]
  have e : IntOp.cmpi .eq (IntOp.shrsi ArithUnit.vector (BitVec.ofNat 32 l.val) 5#32) 2#32 = if l.val / 32 = 2 then 1#1 else 0#1 := lane_head l 2
  rw [e]
  split_ifs <;> rfl
theorem pay26_apply (q : FVec Ideal S512x128 .f32) (z : Fin 1) (i : Fin 512) (l : Fin 128) :
    k0_pay26 (F := Ideal) q (iota .tc S512x128 32 [1] iota_S512x128_d1_w32) (ix3 z i l) = if l.val / 32 = 3 then q (ix2 i l) else 0 := by
  pointwise [k0_pay26]
  have e : IntOp.cmpi .eq (IntOp.shrsi ArithUnit.vector (BitVec.ofNat 32 l.val) 5#32) 3#32 = if l.val / 32 = 3 then 1#1 else 0#1 := lane_head l 3
  rw [e]
  split_ifs <;> rfl

variable (x0 : Vec Ideal S512x1024 .f32) (x1 : Vec Ideal S512x1 .f32) (x2 : Vec Ideal S1x1024 .f32) (x3 x4 : Vec Ideal S1x128 .f32)
  (x5 : Vec Ideal S1024x3456 .bf16) (x6 : Vec Ideal S384x512 .bf16) (x7 : Vec Ideal S1x128 .f32)

/-- The values the stores share, from the blocks: every load is of a whole block. -/
theorem pay38_eq : k0_pay38 (F := Ideal) x0 x1 x2 x3 x4 x5 x6 x7 = k0_pay7 x0 x2 x5 := by
  unfold k0_pay38
  rw [show View.ld x0 r0_0 = x0 from View.ld_unit_zero (by decide) _ _, show View.ld x2 r0_1 = x2 from View.ld_unit_zero (by decide) _ _,
    show View.ld x5 r0_3 = x5 from View.ld_unit_zero (by decide) _ _]
theorem pay39_eq : k0_pay39 (F := Ideal) x0 x1 x2 x3 x4 x5 x6 x7 = k0_pay9 x1 x3 := by
  unfold k0_pay39
  rw [show View.ld x1 r0_2 = x1 from View.ld_unit_zero (by decide) _ _, show View.ld x3 r0_4 = x3 from View.ld_unit_zero (by decide) _ _]
theorem pay40_eq : k0_pay40 (F := Ideal) x0 x1 x2 x3 x4 x5 x6 x7 = k0_pay10 x1 x3 := by
  unfold k0_pay40
  rw [show View.ld x1 r0_2 = x1 from View.ld_unit_zero (by decide) _ _, show View.ld x3 r0_4 = x3 from View.ld_unit_zero (by decide) _ _]
theorem pay41_eq : k0_pay41 (F := Ideal) x0 x1 x2 x3 x4 x5 x6 x7 = k0_pay12 x1 x4 := by
  unfold k0_pay41
  rw [show View.ld x1 r0_2 = x1 from View.ld_unit_zero (by decide) _ _, show View.ld x4 r0_4 = x4 from View.ld_unit_zero (by decide) _ _]
theorem pay42_eq : k0_pay42 (F := Ideal) x0 x1 x2 x3 x4 x5 x6 x7 = k0_pay13 x1 x4 := by
  unfold k0_pay42
  rw [show View.ld x1 r0_2 = x1 from View.ld_unit_zero (by decide) _ _, show View.ld x4 r0_4 = x4 from View.ld_unit_zero (by decide) _ _]
theorem pay43_eq : k0_pay43 (F := Ideal) x0 x1 x2 x3 x4 x5 x6 x7 = k0_pay14 x0 x2 x5 := by
  unfold k0_pay43
  rw [show View.ld x0 r0_0 = x0 from View.ld_unit_zero (by decide) _ _, show View.ld x2 r0_1 = x2 from View.ld_unit_zero (by decide) _ _,
    show View.ld x5 r0_3 = x5 from View.ld_unit_zero (by decide) _ _]
theorem pay44_eq : k0_pay44 (F := Ideal) x0 x1 x2 x3 x4 x5 x6 x7 = k0_pay15 x6 := by
  unfold k0_pay44
  rw [show View.ld x6 r0_5 = x6 from View.ld_unit_zero (by decide) _ _]
theorem pay46_eq : k0_pay46 (F := Ideal) x0 x1 x2 x3 x4 x5 x6 x7 = k0_pay17 (k0_pay7 x0 x2 x5) (k0_pay9 x1 x3) (k0_pay10 x1 x3) := by
  unfold k0_pay46
  rw [pay38_eq, pay39_eq, pay40_eq]

/-- One store of the queries' block, of head `a`: its latent lanes, columns `o` on of the latent queries, or its rotated lanes. -/
theorem latent_lanes (p : S1x512x128.Idx → EReal) (f : Fin 512 → Fin 512 → EReal) (a o : ℕ) (ho : o + 128 ≤ 512) (hao : o = a * 128)
    (hp : ∀ z i l, p (ix3 z i l) = f i ⟨o + l.val, by omega⟩) (x : S1x512x128.Idx) (h : Fin 4) (i : Fin 512) (l : Fin 256)
    (h0 : h.val = a + (x 0).val) (h1 : i.val = (x 1).val) (h2 : l.val = (x 2).val) (r : ¬ l.val < 128 → EReal) :
    p x = if hl : l.val < 128 then f i ⟨h.val * 128 + l.val, by omega⟩ else r hl := by
  idx_vars x
  obtain rfl : i = x1 := Fin.ext h1
  have h0 : h.val = a + x0.val := h0
  have h2 : l.val = x2.val := h2
  have e0 := x0.isLt
  have e2 := x2.isLt
  rw [hp, dif_pos (by omega)]
  exact congrArg (f i) (Fin.ext (by show o + x2.val = h.val * 128 + l.val; omega))
theorem rotated_lanes (p : S1x512x128.Idx → EReal) (q : Fin 512 → Fin 128 → EReal) (a : ℕ)
    (hp : ∀ z i l, p (ix3 z i l) = if l.val / 32 = a then q i l else 0) (x : S1x512x128.Idx) (h : Fin 4) (i : Fin 512) (l : Fin 256)
    (h0 : h.val = a + (x 0).val) (h1 : i.val = (x 1).val) (h2 : l.val = 128 + (x 2).val) (r : l.val < 128 → EReal) :
    p x = if hl : l.val < 128 then r hl else if (l.val - 128) / 32 = h.val then q i ⟨l.val - 128, by omega⟩ else 0 := by
  idx_vars x
  obtain rfl : i = x1 := Fin.ext h1
  have h0 : h.val = a + x0.val := h0
  have h2 : l.val = 128 + x2.val := h2
  have e0 := x0.isLt
  have e2 := x2.isLt
  obtain rfl : h.val = a := by omega
  rw [hp, dif_neg (by omega)]
  have e : x2 = ⟨l.val - 128, by omega⟩ := Fin.ext (by show x2.val = l.val - 128; omega)
  have e' : x2.val = l.val - 128 := congrArg Fin.val e
  rw [e', ← e]

/-- Row `i` of the block's latent queries. -/
def latents (i l : Fin 512) : EReal := ∑ j : Fin 384, k0_pay7 (F := Ideal) x0 x2 x5 (ix2 i ⟨j.val, by omega⟩) * x6 (ix2 j l)

/-- The block of queries the body stores: at head `h`, row `i` and lane `l`. -/
theorem out8_apply (h : Fin 4) (i : Fin 512) (l : Fin 256) :
    out0_8 (F := Ideal) x0 x1 x2 x3 x4 x5 x6 x7 (ix3 h i l)
      = if hl : l.val < 128 then
          latents x0 x2 x5 x6 i ⟨h.val * 128 + l.val, by omega⟩
        else if (l.val - 128) / 32 = h.val then
          turned (k0_pay7 (F := Ideal) x0 x2 x5) (k0_pay9 (F := Ideal) x1 x3) (k0_pay10 (F := Ideal) x1 x3) 384 512 (by omega) (by omega) i ⟨l.val - 128, by omega⟩
        else 0 := by
  unfold out0_8 k0_pay37 k0_pay45
  simp only [pay38_eq, pay39_eq, pay40_eq, pay43_eq, pay44_eq, pay46_eq]
  canon_tiles x h
  · refine rotated_lanes _ _ 3 (fun z i l => (pay26_apply _ z i l).trans ?_) x h i l h0 h1 h2 _
    rw [pay17_apply]
  · refine latent_lanes _ (latents x0 x2 x5 x6) 3 384 (by omega) rfl (fun z i l => (pay25_apply _ z i l).trans (pay16_apply _ _ _ _ i _)) x h i l h0 h1 h2 _
  · refine rotated_lanes _ _ 2 (fun z i l => (pay24_apply _ z i l).trans ?_) x h i l h0 h1 h2 _
    rw [pay17_apply]
  · refine latent_lanes _ (latents x0 x2 x5 x6) 2 256 (by omega) rfl (fun z i l => (pay23_apply _ _ _ z i l).trans (pay16_apply _ _ _ _ i _)) x h i l h0 h1 h2 _
  · refine rotated_lanes _ _ 1 (fun z i l => (pay21_apply _ _ _ z i l).trans ?_) x h i l h0 h1 h2 _
    rw [pay17_apply]
  · refine latent_lanes _ (latents x0 x2 x5 x6) 1 128 (by omega) rfl (fun z i l => (pay20_apply _ _ _ z i l).trans (pay16_apply _ _ _ _ i _)) x h i l h0 h1 h2 _
  · refine rotated_lanes _ _ 0 (fun z i l => (pay19_apply _ _ _ z i l).trans ?_) x h i l (h0.trans (Nat.zero_add _).symm) h1 h2 _
    rw [pay17_apply]
  · refine latent_lanes _ (latents x0 x2 x5 x6) 0 0 (by omega) rfl (fun z i l => (pay18_apply _ _ _ z i l).trans (pay16_apply _ _ _ _ i _)) x h i l (h0.trans (Nat.zero_add _).symm) h1 h2 _

/-- The block of keys and values. -/
theorem out9_apply (i : Fin 512) (l : Fin 256) :
    out0_9 (F := Ideal) x0 x1 x2 x3 x4 x5 x6 x7 (ix2 i l)
      = if hl : l.val < 128 then
          normedLatent (fun d => k0_pay7 (F := Ideal) x0 x2 x5 (ix2 i ⟨640 + d.val, by omega⟩)) (fun d => x7 (ix2 0 d)) ⟨l.val, hl⟩
        else turned (k0_pay7 (F := Ideal) x0 x2 x5) (k0_pay9 (F := Ideal) x1 x3) (k0_pay10 (F := Ideal) x1 x3) 768 896 (by omega) (by omega) i ⟨l.val - 128, by omega⟩ := by
  unfold out0_9
  simp only [pay38_eq, pay39_eq, pay40_eq]
  rw [show View.ld x7 r0_4 = x7 from View.ld_unit_zero (by decide) _ _]
  canon_tiles x h
  · idx_vars x
    obtain rfl : i = x0 := Fin.ext h0
    have h1 : l.val = 128 + x1.val := h1
    rw [dif_neg (by omega)]
    refine (pay31_apply _ _ _ _ _).trans (congrArg _ (Fin.ext (by show x1.val = l.val - 128; omega)))
  · idx_vars x
    obtain rfl : i = x0 := Fin.ext h0
    have h1 : l.val = x1.val := h1
    have e2 := x1.isLt
    rw [dif_pos (by omega)]
    refine (pay30_apply _ _ _ _).trans (congrArg _ (Fin.ext h1.symm))

/-- The block of the indexer's queries: four stores of 128 lanes. -/
theorem query_lanes (p : S512x128.Idx → EReal) (o : ℕ) (ho : o + 128 ≤ 512) (hd : o % 128 = 0)
    (hp : ∀ i l, p (ix2 i l) = turned y c s (1024 + o) (1536 + o) (by omega) (by omega) i l)
    (x : S512x128.Idx) (i l : Fin 512) (h0 : i.val = (x 0).val) (h1 : l.val = o + (x 1).val) :
    p x = y (ix2 i ⟨1024 + l.val, by omega⟩) * c (ix2 i ⟨l.val % 128, by omega⟩)
      + y (ix2 i ⟨1536 + l.val, by omega⟩) * s (ix2 i ⟨l.val % 128, by omega⟩) := by
  idx_vars x
  obtain rfl : i = x0 := Fin.ext h0
  have h1 : l.val = o + x1.val := h1
  have e1 := x1.isLt
  have hx : (⟨l.val % 128, by omega⟩ : Fin 128) = x1 := Fin.ext (by show l.val % 128 = x1.val; omega)
  have e (b : ℕ) (hb) (hb') : (⟨b + o + x1.val, hb⟩ : Fin 3456) = ⟨b + l.val, hb'⟩ := Fin.ext (by show b + o + x1.val = b + l.val; omega)
  rw [hp, turned, hx, e 1024, e 1536]
theorem out10_apply (i l : Fin 512) :
    out0_10 (F := Ideal) x0 x1 x2 x3 x4 x5 x6 x7 (ix2 i l)
      = k0_pay7 (F := Ideal) x0 x2 x5 (ix2 i ⟨1024 + l.val, by omega⟩) * k0_pay12 (F := Ideal) x1 x4 (ix2 i ⟨l.val % 128, by omega⟩)
        + k0_pay7 (F := Ideal) x0 x2 x5 (ix2 i ⟨1536 + l.val, by omega⟩) * k0_pay13 (F := Ideal) x1 x4 (ix2 i ⟨l.val % 128, by omega⟩) := by
  unfold out0_10
  simp only [pay38_eq, pay41_eq, pay42_eq]
  canon_tiles x h
  · exact query_lanes _ _ _ _ 384 (by omega) rfl (fun i l => pay1_apply _ _ _ i l) x i l h0 h1
  · exact query_lanes _ _ _ _ 256 (by omega) rfl (fun i l => pay34_apply _ _ _ i l) x i l h0 h1
  · exact query_lanes _ _ _ _ 128 (by omega) rfl (fun i l => pay33_apply _ _ _ i l) x i l h0 h1
  · exact query_lanes _ _ _ _ 0 (by omega) rfl (fun i l => pay32_apply _ _ _ i l) x i l h0 (h1.trans (Nat.zero_add _).symm)

/-- The blocks of the indexer's keys and weights and of the recurrence's two inputs. -/
theorem out11_apply (i : Fin 512) (l : Fin 128) :
    out0_11 (F := Ideal) x0 x1 x2 x3 x4 x5 x6 x7 (ix2 i l)
      = turned (k0_pay7 (F := Ideal) x0 x2 x5) (k0_pay12 (F := Ideal) x1 x4) (k0_pay13 (F := Ideal) x1 x4) 2048 2176 (by omega) (by omega) i l := by
  frame_out
  rw [pay38_eq, pay41_eq, pay42_eq]
  exact pay2_apply _ _ _ i l
theorem out12_apply (i : Fin 512) (l : Fin 128) :
    out0_12 (F := Ideal) x0 x1 x2 x3 x4 x5 x6 x7 (ix2 i l)
      = k0_pay7 (F := Ideal) x0 x2 x5 (ix2 i ⟨2304 + l.val, by omega⟩) * Ideal.ofBits .f32 0x3D3504F3#32 := by
  frame_out
  rw [pay38_eq]
  exact pay3_apply _ i l
theorem out13_apply (i l : Fin 512) :
    out0_13 (F := Ideal) x0 x1 x2 x3 x4 x5 x6 x7 (ix2 i l) = k0_pay7 (F := Ideal) x0 x2 x5 (ix2 i ⟨2432 + l.val, by omega⟩) := by
  frame_out
  rw [pay38_eq]
  exact pay4_apply _ i l
theorem out14_apply (i l : Fin 512) :
    out0_14 (F := Ideal) x0 x1 x2 x3 x4 x5 x6 x7 (ix2 i l) = k0_pay7 (F := Ideal) x0 x2 x5 (ix2 i ⟨2944 + l.val, by omega⟩) := by
  frame_out
  rw [pay38_eq]
  exact pay5_apply _ i l

end Cert.Kernel4Ideal.RefValue
-- ==== Proof.InHost.lean ====
/-
  What the host operations before the input projection prepare, read at an index: the tokens on one axis, the positions, the
  norms' weights as rows and the rows of rotation frequencies.
-/
module

public import proofs.«01_k».proof.Defs
public import proofs.«01_k».proof.Proof.InSpec
public import proofs.«01_k».proof.Proof.Gen.Kernel4Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.RefValue

open Cert.Kernel4Ideal Cert.Kernel4Ideal.Gen Cert.Proof.FinalSpec Cert.Proof.InSpec

variable (m : (ℓ : Loc nD τ sig) → Buf (Elt Ideal) ℓ)

/-- The rows the call reads: the tokens on one axis, their positions as numbers, the norms' weights as rows, and the lanes'
    frequencies: the 16 pairs' over 32 features eight times; over 16 features the eight pairs' twice, then zeros, both twice. -/
theorem V_x (c : Dev nD) (n : Fin 16384) (k : Fin 1024) :
    V m c main_v157 (ix2 n k) = m ((c : Thread nD τ).loc main_arg0) (ix3 (bat n) (pos n) k) := by
  suffices h : ∀ f, StableHlo.after hostOps0 (fun b => m (c, b)) (Proc.devRef .tc main_v157) = f → f (ix2 n k) = (m ((c : Thread nD τ).loc main_arg0) (ix3 (bat n) (pos n) k)) from h _ rfl
  intro f
  after_results
  rintro rfl
  pointwise [bat, pos]
set_option maxHeartbeats 1000000 in
theorem V_pos (c : Dev nD) (n : Fin 16384) :
    V m c main_v159 (ix2 n 0) = FloatOps.sitofp (F := Ideal) .f32 (m ((c : Thread nD τ).loc main_arg1) (ix2 (bat n) (pos n))) := by
  suffices h : ∀ f, StableHlo.after hostOps0 (fun b => m (c, b)) (Proc.devRef .tc main_v159) = f → f (ix2 n 0) = (FloatOps.sitofp (F := Ideal) .f32 (m ((c : Thread nD τ).loc main_arg1) (ix2 (bat n) (pos n)))) from h _ rfl
  intro f
  after_results
  rintro rfl
  pointwise [bat, pos]
theorem V_fa (c : Dev nD) (l : Fin 128) :
    V m c main_v183 (ix2 0 l) = freq 0x42000000#32 (l.val % 16) := by
  suffices h : ∀ f, StableHlo.after hostOps0 (fun b => m (c, b)) (Proc.devRef .tc main_v183) = f → f (ix2 0 l) = (freq 0x42000000#32 (l.val % 16)) from h _ rfl
  intro f
  after_results
  rintro rfl
  pointwise [bat, pos]
  rfl
set_option maxHeartbeats 2000000 in
theorem V_fi (c : Dev nD) (l : Fin 128) :
    V m c main_v189 (ix2 0 l) = if l.val % 64 < 16 then freq 0x41800000#32 (l.val % 64 % 8) else 0 := by
  suffices h : ∀ f, StableHlo.after hostOps0 (fun b => m (c, b)) (Proc.devRef .tc main_v189) = f → f (ix2 0 l) = (if l.val % 64 < 16 then freq 0x41800000#32 (l.val % 64 % 8) else 0) from h _ rfl
  intro f
  after_results
  repeat first
    | simp only [↓StableHlo.readResult, ↓StableHlo.readPieces, StableHlo.nary_result]
    | dsimp only [Matrix.cons_val]
  rintro rfl
  pointwise [bat, pos]
  split_ifs <;> first
    | (exfalso; omega)
    | rfl
    | (unfold freq; rw [Nat.mod_eq_of_lt (show l.val % 64 < 8 by omega)])
    | (unfold freq; rw [show l.val % 64 - 8 = l.val % 64 % 8 by omega])
theorem V_g (c : Dev nD) (k : Fin 1024) :
    V m c main_v190 (ix2 0 k) = m ((c : Thread nD τ).loc main_arg2) (ix1 k) := by
  suffices h : ∀ f, StableHlo.after hostOps0 (fun b => m (c, b)) (Proc.devRef .tc main_v190) = f → f (ix2 0 k) = (m ((c : Thread nD τ).loc main_arg2) (ix1 k)) from h _ rfl
  intro f
  after_results
  rintro rfl
  pointwise [bat, pos]
theorem V_gk (c : Dev nD) (l : Fin 128) :
    V m c main_v191 (ix2 0 l) = m ((c : Thread nD τ).loc main_arg5) (ix1 l) := by
  suffices h : ∀ f, StableHlo.after hostOps0 (fun b => m (c, b)) (Proc.devRef .tc main_v191) = f → f (ix2 0 l) = (m ((c : Thread nD τ).loc main_arg5) (ix1 l)) from h _ rfl
  intro f
  after_results
  rintro rfl
  pointwise [bat, pos]

end Cert.Kernel4Ideal.RefValue
-- ==== Proof.InCols.lean ====
/-
  The packed weight. What the host operations before the input projection prepare, read at an index: the packed weight's groups of columns, the
  latent weight laid in blocks, the tokens on one axis, the positions and the rows of rotation frequencies.
-/
module

public import proofs.«01_k».proof.Defs
public import proofs.«01_k».proof.Proof.InSpec
public import proofs.«01_k».proof.Proof.Gen.Kernel4Ideal.Frame
public import Idealize.ShloMosaic.Lib.Pipeline.ValueKit
public import Idealize.ShloMosaic.Lib.Pointwise
public import Idealize.ShloMosaic.Lib.Routing.OpsOne

@[expose] public section

set_option maxRecDepth 16384

noncomputable section

open Idealize.ShloMosaic Idealize.ShloMosaic.TcCoe Idealize.SL.Sem

namespace Cert.Kernel4Ideal.RefValue

open Cert.Kernel4Ideal Cert.Kernel4Ideal.Gen Cert.Proof.FinalSpec Cert.Proof.InSpec

variable (m : (ℓ : Loc nD τ sig) → Buf (Elt Ideal) ℓ)

/-- The projection's weight, as given. -/
abbrev wIn (c : Dev nD) : Vec Ideal S1024x2280 .f32 := m ((c : Thread nD τ).loc main_arg3)

/-- The packed weight's groups of columns in row `k`, in their order: the heads' columns without position, their columns with
    position, these again with each pair exchanged and its first negated, the latent's, the key's and the exchanged key's, the
    indexer's queries', exchanged queries', key's, exchanged key's and weights', and the recurrence's two inputs'. -/
def Columns (w : (⟨2, ![1024, 2280]⟩ : Shape).Idx → EReal) (F : (⟨2, ![1024, 3456]⟩ : Shape).Idx → EReal) (k : Fin 1024) : Prop :=
  (∀ j : Fin 384, F (ix2 k ⟨0 + j.val, by omega⟩) = wAt w k (j.val / 96 * 128 + 32 + j.val % 96))
    ∧ (∀ j : Fin 128, F (ix2 k ⟨384 + j.val, by omega⟩) = wAt w k (j.val / 32 * 128 + j.val % 32))
    ∧ (∀ j : Fin 128, F (ix2 k ⟨512 + j.val, by omega⟩) = if j.val % 32 < 16 then -wAt w k (j.val / 32 * 128 + j.val % 32 + 16) else wAt w k (j.val / 32 * 128 + j.val % 32 - 16))
    ∧ (∀ j : Fin 128, F (ix2 k ⟨640 + j.val, by omega⟩) = wAt w k (512 + j.val))
    ∧ (∀ j : Fin 128, F (ix2 k ⟨768 + j.val, by omega⟩) = wAt w k (640 + j.val % 32))
    ∧ (∀ j : Fin 128, F (ix2 k ⟨896 + j.val, by omega⟩) = if j.val % 32 < 16 then -wAt w k (640 + j.val % 32 + 16) else wAt w k (640 + j.val % 32 - 16))
    ∧ (∀ j : Fin 512, F (ix2 k ⟨1024 + j.val, by omega⟩) = wAt w k (672 + j.val))
    ∧ (∀ j : Fin 512, F (ix2 k ⟨1536 + j.val, by omega⟩) = if j.val % 64 < 8 then -wAt w k (672 + j.val + 8) else if j.val % 64 < 16 then wAt w k (672 + j.val - 8) else 0)
    ∧ (∀ j : Fin 128, F (ix2 k ⟨2048 + j.val, by omega⟩) = wAt w k (1184 + j.val % 64))
    ∧ (∀ j : Fin 128, F (ix2 k ⟨2176 + j.val, by omega⟩) = if j.val % 64 < 8 then -wAt w k (1184 + j.val % 64 + 8) else if j.val % 64 < 16 then wAt w k (1184 + j.val % 64 - 8) else 0)
    ∧ (∀ j : Fin 128, F (ix2 k ⟨2304 + j.val, by omega⟩) = if j.val < 8 then wAt w k (1248 + j.val) else 0)
    ∧ (∀ j : Fin 512, F (ix2 k ⟨2432 + j.val, by omega⟩) = wAt w k (1256 + j.val))
    ∧ (∀ j : Fin 512, F (ix2 k ⟨2944 + j.val, by omega⟩) = wAt w k (1768 + j.val))

set_option maxHeartbeats 1000000 in
/-- Thirteen groups of columns side by side, read in each of the groups. -/
theorem groups (a0 : S1024x384.Idx → EReal) (a1 : S1024x128.Idx → EReal) (a2 : S1024x128.Idx → EReal) (a3 : S1024x128.Idx → EReal) (a4 : S1024x128.Idx → EReal) (a5 : S1024x128.Idx → EReal) (a6 : S1024x512.Idx → EReal) (a7 : S1024x512.Idx → EReal) (a8 : S1024x128.Idx → EReal) (a9 : S1024x128.Idx → EReal) (a10 : S1024x128.Idx → EReal) (a11 : S1024x512.Idx → EReal) (a12 : S1024x512.Idx → EReal) (F : S1024x3456.Idx → EReal)
    (e : F = concatenate S1024x3456 1 [⟨S1024x384, a0⟩, ⟨S1024x128, a1⟩, ⟨S1024x128, a2⟩, ⟨S1024x128, a3⟩, ⟨S1024x128, a4⟩, ⟨S1024x128, a5⟩, ⟨S1024x512, a6⟩, ⟨S1024x512, a7⟩, ⟨S1024x128, a8⟩, ⟨S1024x128, a9⟩, ⟨S1024x128, a10⟩, ⟨S1024x512, a11⟩, ⟨S1024x512, a12⟩]
      concatenates_S1024x384_S1024x128_S1024x128_S1024x128_S1024x128_S1024x128_S1024x512_S1024x512_S1024x128_S1024x128_S1024x128_S1024x512_S1024x512_S1024x3456_d1) (k : Fin 1024) :
    (∀ j : Fin 384, F (ix2 k ⟨0 + j.val, by omega⟩) = a0 (ix2 k j))
      ∧ (∀ j : Fin 128, F (ix2 k ⟨384 + j.val, by omega⟩) = a1 (ix2 k j))
      ∧ (∀ j : Fin 128, F (ix2 k ⟨512 + j.val, by omega⟩) = a2 (ix2 k j))
      ∧ (∀ j : Fin 128, F (ix2 k ⟨640 + j.val, by omega⟩) = a3 (ix2 k j))
      ∧ (∀ j : Fin 128, F (ix2 k ⟨768 + j.val, by omega⟩) = a4 (ix2 k j))
      ∧ (∀ j : Fin 128, F (ix2 k ⟨896 + j.val, by omega⟩) = a5 (ix2 k j))
      ∧ (∀ j : Fin 512, F (ix2 k ⟨1024 + j.val, by omega⟩) = a6 (ix2 k j))
      ∧ (∀ j : Fin 512, F (ix2 k ⟨1536 + j.val, by omega⟩) = a7 (ix2 k j))
      ∧ (∀ j : Fin 128, F (ix2 k ⟨2048 + j.val, by omega⟩) = a8 (ix2 k j))
      ∧ (∀ j : Fin 128, F (ix2 k ⟨2176 + j.val, by omega⟩) = a9 (ix2 k j))
      ∧ (∀ j : Fin 128, F (ix2 k ⟨2304 + j.val, by omega⟩) = a10 (ix2 k j))
      ∧ (∀ j : Fin 512, F (ix2 k ⟨2432 + j.val, by omega⟩) = a11 (ix2 k j))
      ∧ (∀ j : Fin 512, F (ix2 k ⟨2944 + j.val, by omega⟩) = a12 (ix2 k j)) := by
  subst e
  refine ⟨?_, ?_, ?_, ?_, ?_, ?_, ?_, ?_, ?_, ?_, ?_, ?_, ?_⟩
  · intro j
    exact concatenate_apply_piece (t := S1024x3456) 1 _ _ (ix2 k ⟨0 + j.val, by omega⟩) 0 (by show 0 < 13; omega) S1024x384 a0 rfl rfl 0 rfl (ix2 k j)
      (fun b hb => by fin_cases b <;> first | rfl | exact absurd rfl hb) rfl
  · intro j
    exact concatenate_apply_piece (t := S1024x3456) 1 _ _ (ix2 k ⟨384 + j.val, by omega⟩) 1 (by show 1 < 13; omega) S1024x128 a1 rfl rfl 384 rfl (ix2 k j)
      (fun b hb => by fin_cases b <;> first | rfl | exact absurd rfl hb) rfl
  · intro j
    exact concatenate_apply_piece (t := S1024x3456) 1 _ _ (ix2 k ⟨512 + j.val, by omega⟩) 2 (by show 2 < 13; omega) S1024x128 a2 rfl rfl 512 rfl (ix2 k j)
      (fun b hb => by fin_cases b <;> first | rfl | exact absurd rfl hb) rfl
  · intro j
    exact concatenate_apply_piece (t := S1024x3456) 1 _ _ (ix2 k ⟨640 + j.val, by omega⟩) 3 (by show 3 < 13; omega) S1024x128 a3 rfl rfl 640 rfl (ix2 k j)
      (fun b hb => by fin_cases b <;> first | rfl | exact absurd rfl hb) rfl
  · intro j
    exact concatenate_apply_piece (t := S1024x3456) 1 _ _ (ix2 k ⟨768 + j.val, by omega⟩) 4 (by show 4 < 13; omega) S1024x128 a4 rfl rfl 768 rfl (ix2 k j)
      (fun b hb => by fin_cases b <;> first | rfl | exact absurd rfl hb) rfl
  · intro j
    exact concatenate_apply_piece (t := S1024x3456) 1 _ _ (ix2 k ⟨896 + j.val, by omega⟩) 5 (by show 5 < 13; omega) S1024x128 a5 rfl rfl 896 rfl (ix2 k j)
      (fun b hb => by fin_cases b <;> first | rfl | exact absurd rfl hb) rfl
  · intro j
    exact concatenate_apply_piece (t := S1024x3456) 1 _ _ (ix2 k ⟨1024 + j.val, by omega⟩) 6 (by show 6 < 13; omega) S1024x512 a6 rfl rfl 1024 rfl (ix2 k j)
      (fun b hb => by fin_cases b <;> first | rfl | exact absurd rfl hb) rfl
  · intro j
    exact concatenate_apply_piece (t := S1024x3456) 1 _ _ (ix2 k ⟨1536 + j.val, by omega⟩) 7 (by show 7 < 13; omega) S1024x512 a7 rfl rfl 1536 rfl (ix2 k j)
      (fun b hb => by fin_cases b <;> first | rfl | exact absurd rfl hb) rfl
  · intro j
    exact concatenate_apply_piece (t := S1024x3456) 1 _ _ (ix2 k ⟨2048 + j.val, by omega⟩) 8 (by show 8 < 13; omega) S1024x128 a8 rfl rfl 2048 rfl (ix2 k j)
      (fun b hb => by fin_cases b <;> first | rfl | exact absurd rfl hb) rfl
  · intro j
    exact concatenate_apply_piece (t := S1024x3456) 1 _ _ (ix2 k ⟨2176 + j.val, by omega⟩) 9 (by show 9 < 13; omega) S1024x128 a9 rfl rfl 2176 rfl (ix2 k j)
      (fun b hb => by fin_cases b <;> first | rfl | exact absurd rfl hb) rfl
  · intro j
    exact concatenate_apply_piece (t := S1024x3456) 1 _ _ (ix2 k ⟨2304 + j.val, by omega⟩) 10 (by show 10 < 13; omega) S1024x128 a10 rfl rfl 2304 rfl (ix2 k j)
      (fun b hb => by fin_cases b <;> first | rfl | exact absurd rfl hb) rfl
  · intro j
    exact concatenate_apply_piece (t := S1024x3456) 1 _ _ (ix2 k ⟨2432 + j.val, by omega⟩) 11 (by show 11 < 13; omega) S1024x512 a11 rfl rfl 2432 rfl (ix2 k j)
      (fun b hb => by fin_cases b <;> first | rfl | exact absurd rfl hb) rfl
  · intro j
    exact concatenate_apply_piece (t := S1024x3456) 1 _ _ (ix2 k ⟨2944 + j.val, by omega⟩) 12 (by show 12 < 13; omega) S1024x512 a12 rfl rfl 2944 rfl (ix2 k j)
      (fun b hb => by fin_cases b <;> first | rfl | exact absurd rfl hb) rfl

/-- Eight groups of 64 columns side by side that agree with `G` at their places agree with `G`. -/
theorem eight (G : ℕ → EReal) (k : Fin 1024) (a0 a1 a2 a3 a4 a5 a6 a7 : S1024x64.Idx → EReal)
    (h0 : ∀ d : Fin 64, a0 (ix2 k d) = G (0 + d.val)) (h1 : ∀ d : Fin 64, a1 (ix2 k d) = G (64 + d.val))
    (h2 : ∀ d : Fin 64, a2 (ix2 k d) = G (128 + d.val)) (h3 : ∀ d : Fin 64, a3 (ix2 k d) = G (192 + d.val))
    (h4 : ∀ d : Fin 64, a4 (ix2 k d) = G (256 + d.val)) (h5 : ∀ d : Fin 64, a5 (ix2 k d) = G (320 + d.val))
    (h6 : ∀ d : Fin 64, a6 (ix2 k d) = G (384 + d.val)) (h7 : ∀ d : Fin 64, a7 (ix2 k d) = G (448 + d.val)) (j : Fin 512) :
    concatenate S1024x512 1 [⟨S1024x64, a0⟩, ⟨S1024x64, a1⟩, ⟨S1024x64, a2⟩, ⟨S1024x64, a3⟩, ⟨S1024x64, a4⟩, ⟨S1024x64, a5⟩, ⟨S1024x64, a6⟩, ⟨S1024x64, a7⟩]
      concatenates_S1024x64_S1024x64_S1024x64_S1024x64_S1024x64_S1024x64_S1024x64_S1024x64_S1024x512_d1 (ix2 k j) = G j.val := by
  pointwise
  simp only [h0, h1, h2, h3, h4, h5, h6, h7]
  split_ifs <;> exact congrArg G (by omega)

/-- An entry of the projection's weight, by its column. -/
theorem eq_entry (c : Dev nD) (k : Fin 1024) (n b : ℕ) (h : n < 2280) (e : n = b) :
    m (c, Proc.tc.devRef main_arg3) (ix2 k ⟨n, h⟩) = wAt (wIn m c) k b := eq_wAt (wIn m c) k n h b e

/-- A choice whose condition holds. -/
theorem pick_pos {P : Prop} [Decidable P] {x y z : EReal} (h : P) (e : x = y) : x = if P then y else z := by rw [if_pos h]; exact e

/-- A choice whose condition fails. -/
theorem pick_neg {P : Prop} [Decidable P] {x y z : EReal} (h : ¬P) (e : x = z) : x = if P then y else z := by rw [if_neg h]; exact e

set_option maxHeartbeats 16000000 in
/-- The packed weight at the kernel's call, row by row: each group of its columns is a group of the projection's weight's columns. -/
theorem columns (c : Dev nD) (k : Fin 1024) : Columns (wIn m c) (V m c main_v126) k := by
  suffices h : ∀ f, StableHlo.after hostOps0 (fun b => m (c, b)) (Proc.devRef .tc main_v126) = f → Columns (wIn m c) f k from h _ rfl
  intro f
  after_results
  repeat first
    | simp (config := { zeta := false, beta := false, eta := false, iota := false, proj := false, decide := false, zetaUnused := false }) only [↓StableHlo.readResult, ↓StableHlo.readPieces, StableHlo.nary_result]
    | dsimp only [Matrix.cons_val]
  intro e
  obtain ⟨g0, g1, g2, g3, g4, g5, g6, g7, g8, g9, g10, g11, g12⟩ := groups _ _ _ _ _ _ _ _ _ _ _ _ _ f e.symm k
  clear e
  refine ⟨fun j => (g0 j).trans ?_, fun j => (g1 j).trans ?_, fun j => (g2 j).trans ?_, fun j => (g3 j).trans ?_,
    fun j => (g4 j).trans ?_, fun j => (g5 j).trans ?_, fun j => (g6 j).trans ?_,
    fun j => (g7 j).trans (eight (fun j => if j % 64 < 8 then -wAt (wIn m c) k (672 + j + 8) else if j % 64 < 16 then wAt (wIn m c) k (672 + j - 8) else 0)
      k _ _ _ _ _ _ _ _ (fun d => ?_) (fun d => ?_) (fun d => ?_) (fun d => ?_) (fun d => ?_) (fun d => ?_) (fun d => ?_) (fun d => ?_) j),
    fun j => (g8 j).trans ?_, fun j => (g9 j).trans ?_, fun j => (g10 j).trans ?_, fun j => (g11 j).trans ?_, fun j => (g12 j).trans ?_⟩
  all_goals clear g0 g1 g2 g3 g4 g5 g6 g7 g8 g9 g10 g11 g12
  all_goals pointwise
  all_goals (try split_ifs)
  all_goals (try split_ifs)
  all_goals (try split_ifs)
  all_goals first
    | (exfalso; omega)
    | (with_reducible refine eq_entry m c k _ _ _ ?_; omega)
    | (with_reducible refine pick_pos ?_ (congrArg Neg.neg (eq_entry m c k _ _ _ ?_)) <;> omega)
    | (with_reducible refine pick_pos ?_ (eq_entry m c k _ _ _ ?_) <;> omega)
    | (with_reducible refine pick_neg ?_ (eq_entry m c k _ _ _ ?_) <;> omega)
    | (with_reducible refine pick_neg ?_ (pick_pos ?_ (eq_entry m c k _ _ _ ?_)) <;> omega)
    | (with_reducible refine congrArg Neg.neg (eq_entry m c k _ _ _ ?_); omega)
    | (refine pick_neg ?_ rfl; omega)
    | (refine pick_neg ?_ (pick_neg ?_ rfl) <;> omega)
    | rfl

end Cert.Kernel4Ideal.RefValue
-- ==== Proof.InLatent.lean ====
/-
  The latent weight of the input projection, laid in blocks by four writes into zeros.
-/
module

public import proofs.«01_k».proof.Defs
public import proofs.«01_k».proof.Proof.InSpec
public import proofs.«01_k».proof.Proof.Gen.Kernel4Ideal.Frame
public import Idealize.ShloMosaic.Lib.Pipeline.ValueKit
public import Idealize.ShloMosaic.Lib.Pointwise
public import Idealize.ShloMosaic.Lib.Routing.OpsOne

@[expose] public section

set_option maxRecDepth 16384

noncomputable section

open Idealize.ShloMosaic Idealize.ShloMosaic.TcCoe Idealize.SL.Sem

namespace Cert.Kernel4Ideal.RefValue

open Cert.Kernel4Ideal Cert.Kernel4Ideal.Gen Cert.Proof.FinalSpec Cert.Proof.InSpec

variable (m : (ℓ : Loc nD τ sig) → Buf (Elt Ideal) ℓ)

/-- The block of 96 rows and 128 columns from `(p, q)` written over `x`, read at `(r, l)`. -/
theorem block_apply (x : S384x512.Idx → EReal) (idx : IVec S2 32) (v : S96x128.Idx → EReal) (p q : ℕ)
    (hp : (idx (ix1 (0 : Fin 2))).toInt = p) (hq : (idx (ix1 (1 : Fin 2))).toInt = q) (r : Fin 384) (l : Fin 512) :
    Host.scatter scatter_S384x512_S2_S96x128_01_n_01_0 (fun _ b => b) x idx v (ix2 r l)
      = if h : (p ≤ r.val ∧ r.val < p + 96) ∧ q ≤ l.val ∧ l.val < q + 128 then v (ix2 ⟨r.val - p, by omega⟩ ⟨l.val - q, by omega⟩)
        else x (ix2 r l) := by
  have lands : ∀ (a : Fin 96) (b : Fin 128),
      scatter_S384x512_S2_S96x128_01_n_01_0.resultIdx? (ix2 a b) idx = some (ix2 r l) ↔ p + a.val = r.val ∧ q + b.val = l.val := by
    intro a b
    have w0 : scatter_S384x512_S2_S96x128_01_n_01_0.window (ix2 a b) 0 = a.val := rfl
    have w1 : scatter_S384x512_S2_S96x128_01_n_01_0.window (ix2 a b) 1 = b.val := rfl
    refine (Routing.resultIdx?_ix2 scatter_S384x512_S2_S96x128_01_n_01_0 (ix2 a b) idx r l).trans ?_
    rw [Routing.start_pair _ rfl rfl, Routing.start_pair _ rfl rfl, w0, w1]
    show (idx (ix1 (0 : Fin 2))).toInt + (a.val : ℤ) = r.val ∧ (idx (ix1 (1 : Fin 2))).toInt + (b.val : ℤ) = l.val ↔ _
    rw [hp, hq]
    omega
  by_cases h : (p ≤ r.val ∧ r.val < p + 96) ∧ q ≤ l.val ∧ l.val < q + 128
  · rw [dif_pos h]
    refine Routing.scatter_set_hit _ x idx v _ _ (fun k hk => ?_) (ix2 ⟨r.val - p, by omega⟩ ⟨l.val - q, by omega⟩)
      ((lands _ _).2 ⟨by simp only; omega, by simp only; omega⟩)
    idx_vars k
    obtain ⟨h0, h1⟩ := (lands _ _).1 hk
    exact congrArg v (congrArg₂ ix2 (Fin.ext (by simp only; omega)) (Fin.ext (by simp only; omega)))
  · rw [dif_neg h]
    refine Routing.scatter_set_miss _ x idx v _ fun k hk => h ?_
    idx_vars k
    obtain ⟨h0, h1⟩ := (lands _ _).1 hk
    omega

/-- A block's first row and column as the two words the write reads. -/
theorem words_apply (a b : BitVec 32) :
    concatenate S2 0 [⟨S1, broadcastInDim S1 ![] bcast_S_S1 (constantI S_ 32 a)⟩, ⟨S1, broadcastInDim S1 ![] bcast_S_S1 (constantI S_ 32 b)⟩]
        concatenates_S1_S1_S2_d0 (ix1 (0 : Fin 2)) = a
      ∧ concatenate S2 0 [⟨S1, broadcastInDim S1 ![] bcast_S_S1 (constantI S_ 32 a)⟩, ⟨S1, broadcastInDim S1 ![] bcast_S_S1 (constantI S_ 32 b)⟩]
        concatenates_S1_S1_S2_d0 (ix1 (1 : Fin 2)) = b := by
  constructor <;> pointwise <;> rfl

theorem word0 (a b : BitVec 32) (p : ℕ) (h : a.toInt = p) :
    (concatenate S2 0 [⟨S1, broadcastInDim S1 ![] bcast_S_S1 (constantI S_ 32 a)⟩, ⟨S1, broadcastInDim S1 ![] bcast_S_S1 (constantI S_ 32 b)⟩]
        concatenates_S1_S1_S2_d0 (ix1 (0 : Fin 2))).toInt = p := by
  rw [(words_apply a b).1, h]
theorem word1 (a b : BitVec 32) (p : ℕ) (h : b.toInt = p) :
    (concatenate S2 0 [⟨S1, broadcastInDim S1 ![] bcast_S_S1 (constantI S_ 32 a)⟩, ⟨S1, broadcastInDim S1 ![] bcast_S_S1 (constantI S_ 32 b)⟩]
        concatenates_S1_S1_S2_d0 (ix1 (1 : Fin 2))).toInt = p := by
  rw [(words_apply a b).2, h]

/-- Four blocks written one after the other over zeros, each in the rows and columns of its head. -/
theorem latent_blocks (U : Fin 4 → Fin 128 → Fin 96 → EReal) (x : S384x512.Idx → EReal) (i0 i1 i2 i3 : IVec S2 32)
    (v0 v1 v2 v3 : S96x128.Idx → EReal)
    (p0 : (i0 (ix1 (0 : Fin 2))).toInt = (0 : ℕ)) (q0 : (i0 (ix1 (1 : Fin 2))).toInt = (0 : ℕ))
    (p1 : (i1 (ix1 (0 : Fin 2))).toInt = (96 : ℕ)) (q1 : (i1 (ix1 (1 : Fin 2))).toInt = (128 : ℕ))
    (p2 : (i2 (ix1 (0 : Fin 2))).toInt = (192 : ℕ)) (q2 : (i2 (ix1 (1 : Fin 2))).toInt = (256 : ℕ))
    (p3 : (i3 (ix1 (0 : Fin 2))).toInt = (288 : ℕ)) (q3 : (i3 (ix1 (1 : Fin 2))).toInt = (384 : ℕ))
    (hx : ∀ r l, x (ix2 r l) = 0) (h0 : ∀ a b, v0 (ix2 a b) = U 0 b a) (h1 : ∀ a b, v1 (ix2 a b) = U 1 b a)
    (h2 : ∀ a b, v2 (ix2 a b) = U 2 b a) (h3 : ∀ a b, v3 (ix2 a b) = U 3 b a) (r : Fin 384) (l : Fin 512) :
    Host.scatter scatter_S384x512_S2_S96x128_01_n_01_0 (fun _ b => b)
        (Host.scatter scatter_S384x512_S2_S96x128_01_n_01_0 (fun _ b => b)
          (Host.scatter scatter_S384x512_S2_S96x128_01_n_01_0 (fun _ b => b)
            (Host.scatter scatter_S384x512_S2_S96x128_01_n_01_0 (fun _ b => b) x i0 v0) i1 v1) i2 v2) i3 v3 (ix2 r l)
      = if l.val / 128 = r.val / 96 then U ⟨r.val / 96, by omega⟩ ⟨l.val % 128, by omega⟩ ⟨r.val % 96, by omega⟩ else 0 := by
  have same {h h' : Fin 4} {b b' : Fin 128} {a a' : Fin 96} (xh : h = h') (xb : b = b') (xa : a = a') : U h b a = U h' b' a' := by
    rw [xh, xb, xa]
  have hU (h : Fin 4) (b : Fin 128) (a : Fin 96) (eh : r.val / 96 = h.val) (eb : l.val % 128 = b.val) (ea : r.val % 96 = a.val) :
      U h b a = U ⟨r.val / 96, by omega⟩ ⟨l.val % 128, by omega⟩ ⟨r.val % 96, by omega⟩ :=
    same (Fin.ext eh.symm) (Fin.ext eb.symm) (Fin.ext ea.symm)
  rw [block_apply _ _ _ 288 384 p3 q3, block_apply _ _ _ 192 256 p2 q2, block_apply _ _ _ 96 128 p1 q1, block_apply _ _ _ 0 0 p0 q0]
  by_cases c3 : (288 ≤ r.val ∧ r.val < 288 + 96) ∧ 384 ≤ l.val ∧ l.val < 384 + 128
  · rw [dif_pos c3, h3, if_pos (by omega)]
    exact hU _ _ _ (by show _ = 3; omega) (by show _ = l.val - 384; omega) (by show _ = r.val - 288; omega)
  rw [dif_neg c3]
  by_cases c2 : (192 ≤ r.val ∧ r.val < 192 + 96) ∧ 256 ≤ l.val ∧ l.val < 256 + 128
  · rw [dif_pos c2, h2, if_pos (by omega)]
    exact hU _ _ _ (by show _ = 2; omega) (by show _ = l.val - 256; omega) (by show _ = r.val - 192; omega)
  rw [dif_neg c2]
  by_cases c1 : (96 ≤ r.val ∧ r.val < 96 + 96) ∧ 128 ≤ l.val ∧ l.val < 128 + 128
  · rw [dif_pos c1, h1, if_pos (by omega)]
    exact hU _ _ _ (by show _ = 1; omega) (by show _ = l.val - 128; omega) (by show _ = r.val - 96; omega)
  rw [dif_neg c1]
  by_cases c0 : (0 ≤ r.val ∧ r.val < 0 + 96) ∧ 0 ≤ l.val ∧ l.val < 0 + 128
  · rw [dif_pos c0, h0, if_pos (by omega)]
    exact hU _ _ _ (by show _ = 0; omega) (by show _ = l.val - 0; omega) (by show _ = r.val - 0; omega)
  rw [dif_neg c0, hx, if_neg (by omega)]

set_option maxHeartbeats 1000000 in
/-- The latent weight laid in blocks: head `h` in its 96 rows and 128 columns, zeros elsewhere. -/
theorem V_latent (c : Dev nD) (r : Fin 384) (l : Fin 512) :
    V m c main_v156 (ix2 r l)
      = if l.val / 128 = r.val / 96 then
          m ((c : Thread nD τ).loc main_arg4) (ix3 ⟨r.val / 96, by omega⟩ ⟨l.val % 128, by omega⟩ ⟨r.val % 96, by omega⟩)
        else (0 : EReal) := by
  suffices h : ∀ f, StableHlo.after hostOps0 (fun b => m (c, b)) (Proc.devRef .tc main_v156) = f → f (ix2 r l)
      = if l.val / 128 = r.val / 96 then
          m ((c : Thread nD τ).loc main_arg4) (ix3 ⟨r.val / 96, by omega⟩ ⟨l.val % 128, by omega⟩ ⟨r.val % 96, by omega⟩)
        else (0 : EReal) from h _ rfl
  intro f
  after_results
  rintro rfl
  rw [show ∀ (x : FVec Ideal S384x512 .f32) (h : _), truncf (F := Ideal) .bf16 x h (ix2 r l) = x (ix2 r l) from fun _ _ => rfl]
  refine latent_blocks (fun h b a => m ((c : Thread nD τ).loc main_arg4) (ix3 h b a)) _ _ _ _ _ _ _ _ _
    (word0 _ _ _ (by decide)) (word1 _ _ _ (by decide)) (word0 _ _ _ (by decide)) (word1 _ _ _ (by decide))
    (word0 _ _ _ (by decide)) (word1 _ _ _ (by decide)) (word0 _ _ _ (by decide)) (word1 _ _ _ (by decide))
    (fun r l => ?_) (fun a b => ?_) (fun a b => ?_) (fun a b => ?_) (fun a b => ?_) r l
  all_goals pointwise

end Cert.Kernel4Ideal.RefValue
-- ==== Proof.InProj.lean ====
/-
  The input projection's kernel: its seven results as functions of the arguments, where the norm's weight and the projection's
  weight are finite.
-/
module

public import proofs.«01_k».proof.Defs
public import proofs.«01_k».proof.Proof.InFinite
public import proofs.«01_k».proof.Proof.InBody
public import proofs.«01_k».proof.Proof.InHost
public import proofs.«01_k».proof.Proof.InCols
public import proofs.«01_k».proof.Proof.InLatent
public import proofs.«01_k».proof.Proof.Gen.Kernel4Ideal.Value
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

/-! ## Rotations and sums as the kernel spells them -/

namespace Cert.Proof.InSpec

open Cert.Proof.FinalSpec

/-- A feature times its cosine plus its partner, negated in the first half, times its sine is the rotated feature. -/
theorem rotated_of (half : ℕ) (p a : ℕ → EReal) (j q : ℕ) (A B : EReal) (hA : A = p j)
    (hB : B = if j < half then -p (half + j) else p (j - half)) (hq : q = if j < half then j else j - half) :
    A * Ideal.cos (a q) + B * Ideal.sin (a q) = rotated half p a j := by
  subst hA hB hq
  unfold rotated
  split_ifs
  · rw [EReal.neg_mul, sub_eq_add_neg]
  · rfl

theorem cos_zero : Ideal.cos (0 : EReal) = 1 := by
  rw [← EReal.coe_zero, Ideal.cos_coe, Real.cos_zero, EReal.coe_one]

/-- The same of an indexer vector, whose lanes past the sixteenth have frequency zero and no partner. -/
theorem partly_of (x : (⟨3, ![8, 2048, 1024]⟩ : Shape).Idx → EReal) (t : (⟨2, ![8, 2048]⟩ : Shape).Idx → BitVec 32)
    (g : (⟨1, ![1024]⟩ : Shape).Idx → EReal) (w : (⟨2, ![1024, 2280]⟩ : Shape).Idx → EReal) (o : ℕ) (n : Fin 16384) (j : ℕ)
    (A B s f : EReal) (hs : s = FloatOps.sitofp (F := Ideal) .f32 (t (ix2 (bat n) (pos n))))
    (hf : f = if j < 16 then freq 0x41800000#32 (j % 8) else 0) (hA : A = proj x g w n (o + j))
    (hB : B = if j < 8 then -proj x g w n (o + j + 8) else if j < 16 then proj x g w n (o + j - 8) else 0) :
    A * Ideal.cos (s * f) + B * Ideal.sin (s * f) = partly x t g w o n j := by
  unfold partly
  split_ifs with h
  · rw [hs, hf, if_pos h]
    refine rotated_of 8 (fun e => proj x g w n (o + e)) (angle t 0x41800000#32 n) j (j % 8) A B hA (hB.trans ?_) (by split_ifs <;> omega)
    simp only [if_pos h]
    split_ifs with h8
    · rw [show o + j + 8 = o + (8 + j) by omega]
    · rw [show o + j - 8 = o + (j - 8) by omega]
  · rw [hf, if_neg h, mul_zero, cos_zero, mul_one, hB, if_neg (by omega), if_neg h, zero_mul, add_zero, hA]

/-- A sum over 384 rows whose terms vanish outside the 96 of head `h`. -/
theorem block_sum (f : Fin 384 → EReal) (h : Fin 4) (hz : ∀ j : Fin 384, j.val / 96 ≠ h.val → f j = 0) :
    ∑ j, f j = ∑ d : Fin 96, f ⟨h.val * 96 + d.val, by omega⟩ := by
  have e : ∑ j : Fin 384, f j = ∑ p : Fin 4 × Fin 96, f (finProdFinEquiv p) :=
    (Equiv.sum_comp (finProdFinEquiv : Fin 4 × Fin 96 ≃ Fin (4 * 96)) f).symm
  rw [e, Fintype.sum_prod_type, Finset.sum_eq_single h]
  · refine Finset.sum_congr rfl fun d _ => congrArg f (Fin.ext ?_)
    show d.val + 96 * h.val = h.val * 96 + d.val
    omega
  · intro b _ hb
    refine Finset.sum_eq_zero fun d _ => hz _ ?_
    show (d.val + 96 * b.val) / 96 ≠ h.val
    have := d.isLt
    have : b.val ≠ h.val := fun e => hb (Fin.ext e)
    omega
  · exact fun h' => absurd (Finset.mem_univ _) h'

/-- A column of negated weights projects a token to the negated column. -/
theorem proj_neg (x : (⟨3, ![8, 2048, 1024]⟩ : Shape).Idx → EReal) (g : (⟨1, ![1024]⟩ : Shape).Idx → EReal)
    (w : (⟨2, ![1024, 2280]⟩ : Shape).Idx → EReal) (hf : Finite g w) (n : Fin 16384) (e : ℕ) :
    ∑ k : Fin 1024, normed (fun k => x (ix3 (bat n) (pos n) k)) (fun k => g (ix1 k)) k * -(wAt w k e) = -proj x g w n e := by
  refine sum_neg _ _ (fun k => normed_real _ _ (fun k => hf.1 _) k) fun k => ?_
  unfold wAt
  split_ifs
  · exact hf.2 _
  · exact ⟨0, EReal.coe_zero.symm⟩

end Cert.Proof.InSpec

/-! ## The kernel -/

namespace Cert.Kernel4Ideal.RefValue

open Cert.Kernel4Ideal Cert.Kernel4Ideal.Gen Cert.Proof.FinalSpec Cert.Proof.InSpec

variable (m : (ℓ : Loc nD τ sig) → Buf (Elt Ideal) ℓ) (ρ : Dev nD → PrngReg)

/-- The windows' block indices: the token blocks move with the point, the weights and frequencies stay. -/
theorem idx : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, t.val, 0] ∧ win0_9.index t = ![t.val, 0]
    ∧ win0_10.index t = ![t.val, 0] ∧ win0_11.index t = ![t.val, 0] ∧ win0_12.index t = ![t.val, 0]
    ∧ win0_13.index t = ![t.val, 0] ∧ win0_14.index t = ![t.val, 0] := by
  decide +kernel

/-- The row of the flat token axis that row `i` of point `t`'s block is. -/
def row (t : Fin cfg0.N) (i : Fin 512) : Fin 16384 :=
  ⟨t.val * 512 + i.val, by have h : t.val < 32 := t.isLt; omega⟩

/-- The arguments. -/
abbrev xIn (c : Dev nD) : Vec Ideal S8x2048x1024 .f32 := m ((c : Thread nD τ).loc main_arg0)
abbrev tIn (c : Dev nD) : IVec S8x2048 32 := m ((c : Thread nD τ).loc main_arg1)
abbrev gIn (c : Dev nD) : Vec Ideal S1024 .f32 := m ((c : Thread nD τ).loc main_arg2)
abbrev uIn (c : Dev nD) : Vec Ideal S4x128x96 .f32 := m ((c : Thread nD τ).loc main_arg4)
abbrev gkIn (c : Dev nD) : Vec Ideal S128 .f32 := m ((c : Thread nD τ).loc main_arg5)

/-- Point `t`'s input blocks, read off the arguments. -/
theorem iblk_0 (c : Dev nD) (t : Fin cfg0.N) (i : Fin 512) (k : Fin 1024) :
    iblk m c 0 t (ix2 i k) = xIn m c (ix3 (bat (row t i)) (pos (row t i)) k) := by
  refine Eq.trans ?_ (V_x m c (row t i) k)
  blk_ext [iblk, row, idx t]
theorem iblk_1 (c : Dev nD) (t : Fin cfg0.N) (i : Fin 512) :
    iblk m c 1 t (ix2 i 0) = FloatOps.sitofp (F := Ideal) .f32 (tIn m c (ix2 (bat (row t i)) (pos (row t i)))) := by
  rw [← V_pos m c (row t i)]
  blk_ext [iblk, row, idx t]
theorem iblk_2 (c : Dev nD) (t : Fin cfg0.N) (k : Fin 1024) : iblk m c 2 t (ix2 0 k) = gIn m c (ix1 k) := by
  refine Eq.trans ?_ (V_g m c k)
  blk_ext [iblk, idx t]
theorem iblk_3 (c : Dev nD) (t : Fin cfg0.N) (l : Fin 128) : iblk m c 3 t (ix2 0 l) = freq 0x42000000#32 (l.val % 16) := by
  rw [← V_fa m c l]
  blk_ext [iblk, idx t]
theorem iblk_4 (c : Dev nD) (t : Fin cfg0.N) (l : Fin 128) :
    iblk m c 4 t (ix2 0 l) = if l.val % 64 < 16 then freq 0x41800000#32 (l.val % 64 % 8) else 0 := by
  rw [← V_fi m c l]
  blk_ext [iblk, idx t]
theorem iblk_5 (c : Dev nD) (t : Fin cfg0.N) (k : Fin 1024) (e : Fin 3456) : iblk m c 5 t (ix2 k e) = V m c main_v126 (ix2 k e) := by
  blk_ext [iblk, idx t]
theorem iblk_6 (c : Dev nD) (t : Fin cfg0.N) (r : Fin 384) (l : Fin 512) :
    iblk m c 6 t (ix2 r l)
      = if l.val / 128 = r.val / 96 then uIn m c (ix3 ⟨r.val / 96, by omega⟩ ⟨l.val % 128, by omega⟩ ⟨r.val % 96, by omega⟩) else (0 : EReal) := by
  rw [← V_latent m c r l]
  blk_ext [iblk, idx t]
theorem iblk_7 (c : Dev nD) (t : Fin cfg0.N) (d : Fin 128) : iblk m c 7 t (ix2 0 d) = gkIn m c (ix1 d) := by
  refine Eq.trans ?_ (V_gk m c d)
  blk_ext [iblk, idx t]

/-- Point `t`'s projected rows, and the column `e` of row `i`'s token. -/
abbrev Y (c : Dev nD) (t : Fin cfg0.N) : FVec Ideal S512x3456 .f32 := k0_pay7 (F := Ideal) (iblk m c 0 t) (iblk m c 2 t) (iblk m c 5 t)
abbrev P (c : Dev nD) (t : Fin cfg0.N) (i : Fin 512) (e : ℕ) : EReal := proj (xIn m c) (gIn m c) (wIn m c) (row t i) e

theorem Y_apply (c : Dev nD) (t : Fin cfg0.N) (i : Fin 512) (e : Fin 3456) :
    Y m c t (ix2 i e) = ∑ k : Fin 1024, normed (fun k => xIn m c (ix3 (bat (row t i)) (pos (row t i)) k)) (fun k => gIn m c (ix1 k)) k
      * V m c main_v126 (ix2 k e) := by
  refine (pay7_apply _ _ _ i e).trans ?_
  simp only [iblk_0, iblk_2, iblk_5]

/-- A column of the packed weight that is one of the weight's, its negation, or zero, and what the row has there. -/
theorem Y_pos (c : Dev nD) (t : Fin cfg0.N) (i : Fin 512) (e : Fin 3456) (e' : ℕ)
    (h : ∀ k, V m c main_v126 (ix2 k e) = wAt (wIn m c) k e') : Y m c t (ix2 i e) = P m c t i e' := by
  rw [Y_apply]
  exact Finset.sum_congr rfl fun k _ => congrArg (_ * ·) (h k)
theorem Y_neg (c : Dev nD) (hf : Finite (gIn m c) (wIn m c)) (t : Fin cfg0.N) (i : Fin 512) (e : Fin 3456) (e' : ℕ)
    (h : ∀ k, V m c main_v126 (ix2 k e) = -wAt (wIn m c) k e') : Y m c t (ix2 i e) = -P m c t i e' := by
  rw [Y_apply]
  refine (Finset.sum_congr rfl fun k _ => congrArg (_ * ·) (h k)).trans ?_
  exact proj_neg _ _ _ hf _ _
theorem Y_zero (c : Dev nD) (t : Fin cfg0.N) (i : Fin 512) (e : Fin 3456) (h : ∀ k, V m c main_v126 (ix2 k e) = (0 : EReal)) :
    Y m c t (ix2 i e) = 0 := by
  rw [Y_apply]
  exact Finset.sum_eq_zero fun k _ => by rw [h k, mul_zero]

/-- The cosines and sines of a lane's angle, over 32 features and over 16. -/
theorem cos_a (c : Dev nD) (t : Fin cfg0.N) (i : Fin 512) (l : Fin 128) :
    k0_pay9 (F := Ideal) (iblk m c 1 t) (iblk m c 3 t) (ix2 i l) = Ideal.cos (angle (tIn m c) 0x42000000#32 (row t i) (l.val % 16)) := by
  rw [pay9_apply, iblk_1, iblk_3]
  rfl
theorem sin_a (c : Dev nD) (t : Fin cfg0.N) (i : Fin 512) (l : Fin 128) :
    k0_pay10 (F := Ideal) (iblk m c 1 t) (iblk m c 3 t) (ix2 i l) = Ideal.sin (angle (tIn m c) 0x42000000#32 (row t i) (l.val % 16)) := by
  rw [pay10_apply, iblk_1, iblk_3]
  rfl

/-- Row `i` of the queries', keys' and indexer's blocks is its token's. -/
theorem row_query (c : Dev nD) (hf : Finite (gIn m c) (wIn m c)) (t : Fin cfg0.N) (h : Fin 4) (i : Fin 512) (l : Fin 256) :
    out0_8 (F := Ideal) (iblk m c 0 t) (iblk m c 1 t) (iblk m c 2 t) (iblk m c 3 t) (iblk m c 4 t) (iblk m c 5 t) (iblk m c 6 t) (iblk m c 7 t) (ix3 h i l)
      = query (xIn m c) (tIn m c) (gIn m c) (wIn m c) (uIn m c) h (row t i) l.val := by
  rw [out8_apply, query]
  split_ifs with hl hh
  · unfold latents
    refine (block_sum _ h fun j hj => ?_).trans (Finset.sum_congr rfl fun d _ => ?_)
    · rw [iblk_6, if_neg (by show ¬ (h.val * 128 + l.val) / 128 = j.val / 96; omega), mul_zero]
    · have hd := d.isLt
      rw [iblk_6, if_pos (by show (h.val * 128 + l.val) / 128 = (h.val * 96 + d.val) / 96; omega), mul_comm]
      refine congrArg₂ (· * ·) (congrArg (uIn m c) ?_) ?_
      · refine congr (congr (congrArg ix3 (Fin.ext ?_)) (Fin.ext ?_)) (Fin.ext ?_)
        · show (h.val * 96 + d.val) / 96 = h.val
          omega
        · show (h.val * 128 + l.val) % 128 = l.val
          omega
        · show (h.val * 96 + d.val) % 96 = d.val
          omega
      · refine Y_pos m c t i _ _ fun k => ?_
        have e := (columns m c k).1 ⟨h.val * 96 + d.val, by omega⟩
        refine (congrArg (V m c main_v126) (congrArg (ix2 k) (Fin.ext ?_))).trans (e.trans (congrArg (wAt _ k) ?_))
        · show h.val * 96 + d.val = 0 + (h.val * 96 + d.val)
          omega
        · show (h.val * 96 + d.val) / 96 * 128 + 32 + (h.val * 96 + d.val) % 96 = h.val * 128 + (32 + d.val)
          omega
  · unfold turned
    rw [cos_a, sin_a]
    refine rotated_of 16 (fun e => P m c t i (h.val * 128 + e)) (angle (tIn m c) 0x42000000#32 (row t i)) ((l.val - 128) % 32)
      ((l.val - 128) % 16) _ _ ?_ ?_ (by split_ifs <;> omega)
    · refine Y_pos m c t i _ _ fun k => ((columns m c k).2.1 _).trans (congrArg (wAt _ k) ?_)
      show (l.val - 128) / 32 * 128 + (l.val - 128) % 32 = h.val * 128 + (l.val - 128) % 32
      omega
    · split_ifs with h16
      · refine Y_neg m c hf t i _ _ fun k => ((columns m c k).2.2.1 _).trans ((if_pos h16).trans (congrArg (-wAt _ k ·) ?_))
        show (l.val - 128) / 32 * 128 + (l.val - 128) % 32 + 16 = h.val * 128 + (16 + (l.val - 128) % 32)
        omega
      · refine Y_pos m c t i _ _ fun k => ((columns m c k).2.2.1 _).trans ((if_neg h16).trans (congrArg (wAt _ k) ?_))
        show (l.val - 128) / 32 * 128 + (l.val - 128) % 32 - 16 = h.val * 128 + ((l.val - 128) % 32 - 16)
        omega
  · rfl
theorem row_keyValue (c : Dev nD) (hf : Finite (gIn m c) (wIn m c)) (t : Fin cfg0.N) (i : Fin 512) (l : Fin 256) :
    out0_9 (F := Ideal) (iblk m c 0 t) (iblk m c 1 t) (iblk m c 2 t) (iblk m c 3 t) (iblk m c 4 t) (iblk m c 5 t) (iblk m c 6 t) (iblk m c 7 t) (ix2 i l)
      = keyValue (xIn m c) (tIn m c) (gIn m c) (wIn m c) (gkIn m c) (row t i) l.val := by
  rw [out9_apply, keyValue]
  split_ifs with hl
  · refine congrArg₂ (normedLatent · · _) (funext fun d => ?_) (funext fun d => iblk_7 m c t d)
    exact Y_pos m c t i _ _ fun k => (columns m c k).2.2.2.1 d
  · unfold turned
    rw [cos_a, sin_a]
    refine rotated_of 16 (fun e => P m c t i (640 + e)) (angle (tIn m c) 0x42000000#32 (row t i)) ((l.val - 128) % 32)
      ((l.val - 128) % 16) _ _ ?_ ?_ (by split_ifs <;> omega)
    · exact Y_pos m c t i _ _ fun k => (columns m c k).2.2.2.2.1 _
    · split_ifs with h16
      · refine Y_neg m c hf t i _ _ fun k => ((columns m c k).2.2.2.2.2.1 _).trans ((if_pos h16).trans (congrArg (-wAt _ k ·) ?_))
        show 640 + (l.val - 128) % 32 + 16 = 640 + (16 + (l.val - 128) % 32)
        omega
      · refine Y_pos m c t i _ _ fun k => ((columns m c k).2.2.2.2.2.1 _).trans ((if_neg h16).trans (congrArg (wAt _ k) ?_))
        show 640 + (l.val - 128) % 32 - 16 = 640 + ((l.val - 128) % 32 - 16)
        omega
theorem row_iq (c : Dev nD) (hf : Finite (gIn m c) (wIn m c)) (t : Fin cfg0.N) (i l : Fin 512) :
    out0_10 (F := Ideal) (iblk m c 0 t) (iblk m c 1 t) (iblk m c 2 t) (iblk m c 3 t) (iblk m c 4 t) (iblk m c 5 t) (iblk m c 6 t) (iblk m c 7 t) (ix2 i l)
      = partly (xIn m c) (tIn m c) (gIn m c) (wIn m c) (672 + l.val / 64 * 64) (row t i) (l.val % 64) := by
  have h64 : l.val % 128 % 64 = l.val % 64 := by omega
  rw [out10_apply, pay12_apply, pay13_apply]
  refine partly_of _ _ _ _ _ _ _ _ _ _ _ (iblk_1 m c t i) ((iblk_4 m c t _).trans (by simp only [h64])) ?_ ?_
  · refine Y_pos m c t i _ _ fun k => ((columns m c k).2.2.2.2.2.2.1 l).trans (congrArg (wAt _ k) ?_)
    omega
  · split_ifs with h8 h16
    · refine Y_neg m c hf t i _ _ fun k => ((columns m c k).2.2.2.2.2.2.2.1 l).trans ((if_pos h8).trans (congrArg (-wAt _ k ·) ?_))
      omega
    · refine Y_pos m c t i _ _ fun k => ((columns m c k).2.2.2.2.2.2.2.1 l).trans ((if_neg h8).trans ((if_pos h16).trans (congrArg (wAt _ k) ?_)))
      omega
    · exact Y_zero m c t i _ fun k => ((columns m c k).2.2.2.2.2.2.2.1 l).trans ((if_neg h8).trans (if_neg h16))
theorem row_ik (c : Dev nD) (hf : Finite (gIn m c) (wIn m c)) (t : Fin cfg0.N) (i : Fin 512) (l : Fin 128) :
    out0_11 (F := Ideal) (iblk m c 0 t) (iblk m c 1 t) (iblk m c 2 t) (iblk m c 3 t) (iblk m c 4 t) (iblk m c 5 t) (iblk m c 6 t) (iblk m c 7 t) (ix2 i l)
      = partly (xIn m c) (tIn m c) (gIn m c) (wIn m c) 1184 (row t i) (l.val % 64) := by
  rw [out11_apply, turned, pay12_apply, pay13_apply]
  refine partly_of _ _ _ _ _ _ _ _ _ _ _ (iblk_1 m c t i) (iblk_4 m c t _) ?_ ?_
  · exact Y_pos m c t i _ _ fun k => (columns m c k).2.2.2.2.2.2.2.2.1 l
  · split_ifs with h8 h16
    · exact Y_neg m c hf t i _ _ fun k => ((columns m c k).2.2.2.2.2.2.2.2.2.1 l).trans (if_pos h8)
    · exact Y_pos m c t i _ _ fun k => ((columns m c k).2.2.2.2.2.2.2.2.2.1 l).trans ((if_neg h8).trans (if_pos h16))
    · exact Y_zero m c t i _ fun k => ((columns m c k).2.2.2.2.2.2.2.2.2.1 l).trans ((if_neg h8).trans (if_neg h16))
theorem row_weight (c : Dev nD) (t : Fin cfg0.N) (i : Fin 512) (l : Fin 128) :
    out0_12 (F := Ideal) (iblk m c 0 t) (iblk m c 1 t) (iblk m c 2 t) (iblk m c 3 t) (iblk m c 4 t) (iblk m c 5 t) (iblk m c 6 t) (iblk m c 7 t) (ix2 i l)
      = weight (xIn m c) (gIn m c) (wIn m c) (row t i) l.val := by
  rw [out12_apply, weight]
  split_ifs with h8
  · refine congrArg (· * _) (Y_pos m c t i _ _ fun k => ((columns m c k).2.2.2.2.2.2.2.2.2.2.1 l).trans (if_pos h8))
  · refine (congrArg (· * _) (Y_zero m c t i _ fun k => ((columns m c k).2.2.2.2.2.2.2.2.2.2.1 l).trans (if_neg h8))).trans (zero_mul _)
theorem row_xb (c : Dev nD) (t : Fin cfg0.N) (i l : Fin 512) :
    out0_13 (F := Ideal) (iblk m c 0 t) (iblk m c 1 t) (iblk m c 2 t) (iblk m c 3 t) (iblk m c 4 t) (iblk m c 5 t) (iblk m c 6 t) (iblk m c 7 t) (ix2 i l)
      = proj (xIn m c) (gIn m c) (wIn m c) (row t i) (1256 + l.val) := by
  rw [out13_apply]
  exact Y_pos m c t i _ _ fun k => (columns m c k).2.2.2.2.2.2.2.2.2.2.2.1 l
theorem row_gate (c : Dev nD) (t : Fin cfg0.N) (i l : Fin 512) :
    out0_14 (F := Ideal) (iblk m c 0 t) (iblk m c 1 t) (iblk m c 2 t) (iblk m c 3 t) (iblk m c 4 t) (iblk m c 5 t) (iblk m c 6 t) (iblk m c 7 t) (ix2 i l)
      = proj (xIn m c) (gIn m c) (wIn m c) (row t i) (1768 + l.val) := by
  rw [out14_apply]
  exact Y_pos m c t i _ _ fun k => (columns m c k).2.2.2.2.2.2.2.2.2.2.2.2 l

/-- What the seven result arrays are shown to hold. -/
abbrev val0 (c : Dev nD) : Buf (Elt Ideal) ((c : Thread nD τ).loc main_v192_0) := result0 (xIn m c) (tIn m c) (gIn m c) (wIn m c) (uIn m c)
abbrev val1 (c : Dev nD) : Buf (Elt Ideal) ((c : Thread nD τ).loc main_v192_1) := result1 (xIn m c) (tIn m c) (gIn m c) (wIn m c) (gkIn m c)
abbrev val2 (c : Dev nD) : Buf (Elt Ideal) ((c : Thread nD τ).loc main_v192_2) := result2 (xIn m c) (tIn m c) (gIn m c) (wIn m c)
abbrev val3 (c : Dev nD) : Buf (Elt Ideal) ((c : Thread nD τ).loc main_v192_3) := result3 (xIn m c) (tIn m c) (gIn m c) (wIn m c)
abbrev val4 (c : Dev nD) : Buf (Elt Ideal) ((c : Thread nD τ).loc main_v192_4) := result4 (xIn m c) (gIn m c) (wIn m c)
abbrev val5 (c : Dev nD) : Buf (Elt Ideal) ((c : Thread nD τ).loc main_v192_5) := result56 (xIn m c) (gIn m c) (wIn m c) 1256
abbrev val6 (c : Dev nD) : Buf (Elt Ideal) ((c : Thread nD τ).loc main_v192_6) := result56 (xIn m c) (gIn m c) (wIn m c) 1768

/-- The points' blocks tile each result array and each block is that of the value. -/
theorem final8 (c : Dev nD) (hf : Finite (gIn m c) (wIn m c)) : (dats m 0 c).arrAt 8 cfg0.N = val0 m c := by
  refine (dats m 0 c).arrAt_eq_of_covers 8 _ (by decide +kernel) fun t hf y => ?_
  blk_simp
  rw [after0_8]
  idx_vars y
  refine (row_query m c ‹_› t y0 y1 y2).trans ?_
  have he : ((View.whole main_v192_0).slice (win0_8.rect t)).emb (ix3 y0 y1 y2) = ix3 y0 (row t y1) y2 := by
    blk_ext [row, idx t]
  rw [he]
  rfl
theorem final9 (c : Dev nD) (hf : Finite (gIn m c) (wIn m c)) : (dats m 0 c).arrAt 9 cfg0.N = val1 m c := by
  refine (dats m 0 c).arrAt_eq_of_covers 9 _ (by decide +kernel) fun t hf y => ?_
  blk_simp
  rw [after0_9]
  idx_vars y
  refine (row_keyValue m c ‹_› t y0 y1).trans ?_
  have he : ((View.whole main_v192_1).slice (win0_9.rect t)).emb (ix2 y0 y1) = ix2 (row t y0) y1 := by
    blk_ext [row, idx t]
  rw [he]
  rfl
theorem final10 (c : Dev nD) (hf : Finite (gIn m c) (wIn m c)) : (dats m 0 c).arrAt 10 cfg0.N = val2 m c := by
  refine (dats m 0 c).arrAt_eq_of_covers 10 _ (by decide +kernel) fun t hf y => ?_
  blk_simp
  rw [after0_10]
  idx_vars y
  refine (row_iq m c ‹_› t y0 y1).trans ?_
  have he : ((View.whole main_v192_2).slice (win0_10.rect t)).emb (ix2 y0 y1) = ix2 (row t y0) y1 := by
    blk_ext [row, idx t]
  rw [he]
  rfl
theorem final11 (c : Dev nD) (hf : Finite (gIn m c) (wIn m c)) : (dats m 0 c).arrAt 11 cfg0.N = val3 m c := by
  refine (dats m 0 c).arrAt_eq_of_covers 11 _ (by decide +kernel) fun t hf y => ?_
  blk_simp
  rw [after0_11]
  idx_vars y
  refine (row_ik m c ‹_› t y0 y1).trans ?_
  have he : ((View.whole main_v192_3).slice (win0_11.rect t)).emb (ix2 y0 y1) = ix2 (row t y0) y1 := by
    blk_ext [row, idx t]
  rw [he]
  rfl
theorem final12 (c : Dev nD) : (dats m 0 c).arrAt 12 cfg0.N = val4 m c := by
  refine (dats m 0 c).arrAt_eq_of_covers 12 _ (by decide +kernel) fun t hf y => ?_
  blk_simp
  rw [after0_12]
  idx_vars y
  refine (row_weight m c t y0 y1).trans ?_
  have he : ((View.whole main_v192_4).slice (win0_12.rect t)).emb (ix2 y0 y1) = ix2 (row t y0) y1 := by
    blk_ext [row, idx t]
  rw [he]
  rfl
theorem final13 (c : Dev nD) : (dats m 0 c).arrAt 13 cfg0.N = val5 m c := by
  refine (dats m 0 c).arrAt_eq_of_covers 13 _ (by decide +kernel) fun t hf y => ?_
  blk_simp
  rw [after0_13]
  idx_vars y
  refine (row_xb m c t y0 y1).trans ?_
  have he : ((View.whole main_v192_5).slice (win0_13.rect t)).emb (ix2 y0 y1) = ix2 (row t y0) y1 := by
    blk_ext [row, idx t]
  rw [he]
  rfl
theorem final14 (c : Dev nD) : (dats m 0 c).arrAt 14 cfg0.N = val6 m c := by
  refine (dats m 0 c).arrAt_eq_of_covers 14 _ (by decide +kernel) fun t hf y => ?_
  blk_simp
  rw [after0_14]
  idx_vars y
  refine (row_gate m c t y0 y1).trans ?_
  have he : ((View.whole main_v192_6).slice (win0_14.rect t)).emb (ix2 y0 y1) = ix2 (row t y0) y1 := by
    blk_ext [row, idx t]
  rw [he]
  rfl

/-- The kernel leaves the seven values in its result arrays and its arguments as they were. -/
theorem run (hf : ∀ c, Finite (gIn m c) (wIn m c)) :
    θ_run defs (onTc (τ := τ) (main (F := Ideal))) ⟨m, fun _ => 0, ρ⟩ fun r => ∀ c : Dev nD,
      r.2.mem ((c : Thread nD τ).loc main_v192_0) = val0 m c
      ∧ r.2.mem ((c : Thread nD τ).loc main_v192_1) = val1 m c
      ∧ r.2.mem ((c : Thread nD τ).loc main_v192_2) = val2 m c
      ∧ r.2.mem ((c : Thread nD τ).loc main_v192_3) = val3 m c
      ∧ r.2.mem ((c : Thread nD τ).loc main_v192_4) = val4 m c
      ∧ r.2.mem ((c : Thread nD τ).loc main_v192_5) = val5 m c
      ∧ r.2.mem ((c : Thread nD τ).loc main_v192_6) = val6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final8 m c (hf c)), (h c).2.1.trans (final9 m c (hf c)),
    (h c).2.2.1.trans (final10 m c (hf c)), (h c).2.2.2.1.trans (final11 m c (hf c)), (h c).2.2.2.2.1.trans (final12 m c),
    (h c).2.2.2.2.2.1.trans (final13 m c), (h c).2.2.2.2.2.2.1.trans (final14 m c), (h c).2.2.2.2.2.2.2⟩) (Value.run_blocks m ρ)

/-- The precondition makes those inputs finite. -/
theorem finite_of_pre [Cert.Pre_finite_weights.Facts] (h : Cert.Pre_Kernel4Ideal_finite_weights m) (c : Dev nD) :
    Finite (gIn m c) (wIn m c) := finite_of_fn _ _ _ _ _ _ (h c)

end Cert.Kernel4Ideal.RefValue
-- ==== Proof.InRef.lean ====
/-
  The input projection's reference, read at an index.
-/
module

public import proofs.«01_k».proof.Defs
public import proofs.«01_k».proof.Proof.InSpec
public import proofs.«01_k».proof.Proof.Gen.Reference4Ideal.Read
public import Idealize.ShloMosaic.Lib.Pointwise

@[expose] public section

set_option maxRecDepth 16384

noncomputable section

open Idealize.ShloMosaic Idealize.ShloMosaic.TcCoe Idealize.SL.Sem

namespace Cert.Reference4Ideal.RefValue

open Cert.Reference4Ideal Cert.Reference4Ideal.Gen Cert.Reference4Ideal.Read Cert.Proof.FinalSpec Cert.Proof.InSpec

variable (x : Vec Ideal S8x2048x1024 .f32) (t : Vec Ideal S8x2048 .i32) (g : Vec Ideal S1024 .f32) (w : Vec Ideal S1024x2280 .f32)
  (u : Vec Ideal S4x128x96 .f32) (gk : Vec Ideal S128 .f32)

/-- The cosines and sines of a token's angles, over 32 features and over 16. -/
theorem v16_apply (n : Fin 16384) (i : Fin 16) :
    val_main_v16 (F := Ideal) t (ix3 (bat n) (pos n) i) = Ideal.cos (angle t 0x42000000#32 n i.val) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, val_main_cst_2, val_main_v16, angle, freq]
theorem v17_apply (n : Fin 16384) (i : Fin 16) :
    val_main_v17 (F := Ideal) t (ix3 (bat n) (pos n) i) = Ideal.sin (angle t 0x42000000#32 n i.val) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, val_main_cst_2, val_main_v17, angle, freq]
theorem v34_apply (n : Fin 16384) (i : Fin 8) :
    val_main_v34 (F := Ideal) t (ix3 (bat n) (pos n) i) = Ideal.cos (angle t 0x41800000#32 n i.val) := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_cst_3, val_main_cst_4, val_main_cst_5, val_main_cst_6, val_main_v34, angle, freq]
theorem v35_apply (n : Fin 16384) (i : Fin 8) :
    val_main_v35 (F := Ideal) t (ix3 (bat n) (pos n) i) = Ideal.sin (angle t 0x41800000#32 n i.val) := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_cst_3, val_main_cst_4, val_main_cst_5, val_main_cst_6, val_main_v35, angle, freq]

/-- A column of the projection of the normalized tokens. -/
theorem v49_apply (b : Fin 8) (s : Fin 2048) (e : Fin 2280) :
    val_main_v49 (F := Ideal) x g w (ix3 b s e)
      = ∑ k : Fin 1024, normed (fun k => x (ix3 b s k)) (fun k => g (ix1 k)) k * w (ix2 k e) := by
  pointwise [val_main_v36, val_main_v37, val_main_v38, val_main_v39, val_main_v40, val_main_v41, val_main_v42, val_main_v43, val_main_v44, val_main_v45, val_main_v46, val_main_v47, val_main_v48, val_main_v49, val_main_cst_7, val_main_cst_8, val_main_cst_9, normed]
theorem v49_col (n : Fin 16384) (e : ℕ) (h : e < 2280) :
    val_main_v49 (F := Ideal) x g w (ix3 (bat n) (pos n) ⟨e, h⟩) = proj x g w n e := by
  rw [v49_apply, proj]
  exact Finset.sum_congr rfl fun k _ => congrArg (_ * ·) (eq_wAt w k e h e rfl)

/-- The heads' rotated queries, latent queries and the lanes they lie in. -/
theorem v74_apply (n : Fin 16384) (h : Fin 4) (j : Fin 32) :
    val_main_v74 (F := Ideal) x t g w (ix4 (bat n) (pos n) h j)
      = rotated 16 (fun e => proj x g w n (h.val * 128 + e)) (angle t 0x42000000#32 n) j.val := by
  pointwise [val_main_v50, val_main_v58, val_main_v59, val_main_v60, val_main_v61, val_main_v62, val_main_v63, val_main_v64, val_main_v65, val_main_v66, val_main_v67, val_main_v68, val_main_v69, val_main_v70, val_main_v71, val_main_v72, val_main_v73, val_main_v74]
  simp only [v49_col, v16_apply, v17_apply, rotated]
  split_ifs with hj
  · rfl
  · rw [show 16 + (j.val - 16) = j.val by omega]
theorem v77_apply (n : Fin 16384) (h : Fin 4) (l : Fin 128) :
    val_main_v77 (F := Ideal) x g w u (ix4 (bat n) (pos n) h l)
      = ∑ d : Fin 96, u (ix3 h l d) * proj x g w n (h.val * 128 + (32 + d.val)) := by
  pointwise [val_main_v50, val_main_v58, val_main_v75, val_main_v76, val_main_v77]
  simp only [v49_col]
theorem own_head : ∀ h k : Fin 4, IntOp.cmpi .eq (BitVec.ofNat 32 h.val) (BitVec.ofNat 32 k.val) = if k.val = h.val then 1#1 else 0#1 := by
  decide +kernel
theorem v88_apply (n : Fin 16384) (h : Fin 4) (l : Fin 128) :
    val_main_v88 (F := Ideal) x t g w (ix4 (bat n) (pos n) h l)
      = if l.val / 32 = h.val then rotated 16 (fun e => proj x g w n (h.val * 128 + e)) (angle t 0x42000000#32 n) (l.val % 32) else 0 := by
  pointwise [val_main_v78, val_main_v79, val_main_v80, val_main_v81, val_main_v82, val_main_v83, val_main_v84, val_main_v85, val_main_v86, val_main_v87, val_main_v88, val_main_call0_v0, val_main_call0_v1, val_main_call0_v2, val_main_call0_v3, val_main_cst_10]
  rw [own_head h ⟨l.val / 32, by omega⟩, v74_apply]
  split_ifs
  · rfl
  · exact Ideal.ofBits_zero_f32

/-- A head's latent query and its lanes side by side, and the first result's layout. -/
theorem v89_apply (n : Fin 16384) (h : Fin 4) (l : Fin 256) :
    val_main_v89 (F := Ideal) x t g w u (ix4 (bat n) (pos n) h l)
      = if hl : l.val < 128 then val_main_v77 (F := Ideal) x g w u (ix4 (bat n) (pos n) h ⟨l.val, hl⟩)
        else val_main_v88 (F := Ideal) x t g w (ix4 (bat n) (pos n) h ⟨l.val - 128, by omega⟩) := by
  unfold val_main_v89
  generalize val_main_v77 (F := Ideal) x g w u = p
  generalize val_main_v88 (F := Ideal) x t g w = q
  pointwise
theorem v151_apply (n : Fin 16384) (h : Fin 4) (l : Fin 256) :
    val_main_v151 (F := Ideal) x t g w u (ix3 h n l) = val_main_v89 (F := Ideal) x t g w u (ix4 (bat n) (pos n) h l) := by
  refine (val_main_v151_apply x t g w u (ix3 h n l)).trans ((val_main_v150_apply x t g w u (ix3 h n l)).trans
    ((val_main_v149_apply x t g w u _).trans (congrArg (val_main_v89 (F := Ideal) x t g w u) ?_)))
  funext a
  apply Fin.ext
  match a with
  | ⟨0, _⟩ => show ((h.val * 16384 + n.val) * 256 + l.val) / 524288 % 8 = n.val / 2048; omega
  | ⟨1, _⟩ => show ((h.val * 16384 + n.val) * 256 + l.val) / 256 % 2048 = n.val % 2048; omega
  | ⟨2, _⟩ => show ((h.val * 16384 + n.val) * 256 + l.val) / 4194304 = h.val; omega
  | ⟨3, _⟩ => show ((h.val * 16384 + n.val) * 256 + l.val) % 256 = l.val; omega

/-- The seven results at an index. -/
theorem ref0 (h : Fin 4) (n : Fin 16384) (l : Fin 256) :
    val_main_v151 (F := Ideal) x t g w u (ix3 h n l) = query x t g w u h n l.val := by
  rw [v151_apply, v89_apply, query]
  split_ifs with h1 h2
  · exact v77_apply x g w u n h ⟨l.val, h1⟩
  · exact (v88_apply x t g w n h _).trans (if_pos h2)
  · exact (v88_apply x t g w n h _).trans (if_neg h2)
theorem ref1 (n : Fin 16384) (l : Fin 256) :
    val_main_v153 (F := Ideal) x t g w gk (ix2 n l) = keyValue x t g w gk n l.val := by
  have e : val_main_v153 (F := Ideal) x t g w gk (ix2 n l) = val_main_v115 (F := Ideal) x t g w gk (ix3 (bat n) (pos n) l) := by
    pointwise [val_main_v152, val_main_v153, bat, pos]
  rw [e, keyValue]
  pointwise [val_main_v51, val_main_v52, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_cst_11, val_main_cst_12, val_main_cst_13]
  simp only [v49_col, v16_apply, v17_apply, rotated]
  split_ifs <;> repeat' first
    | omega
    | with_reducible rfl
    | congr 1
theorem ref2 (n : Fin 16384) (l : Fin 512) :
    val_main_v155 (F := Ideal) x t g w (ix2 n l) = partly x t g w (672 + l.val / 64 * 64) n (l.val % 64) := by
  have e : val_main_v155 (F := Ideal) x t g w (ix2 n l) = val_main_v134 (F := Ideal) x t g w (ix4 (bat n) (pos n) ⟨l.val / 64, by omega⟩ ⟨l.val % 64, by omega⟩) := by
    pointwise [val_main_v154, val_main_v155, bat, pos]
  rw [e, partly]
  pointwise [val_main_v53, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134]
  simp only [v49_col, v34_apply, v35_apply, rotated]
  split_ifs <;> repeat' first
    | omega
    | with_reducible rfl
    | congr 1
theorem ref3 (n : Fin 16384) (l : Fin 128) :
    val_main_v160 (F := Ideal) x t g w (ix2 n l) = partly x t g w 1184 n (l.val % 64) := by
  have e : val_main_v160 (F := Ideal) x t g w (ix2 n l) = val_main_v146 (F := Ideal) x t g w (ix3 (bat n) (pos n) ⟨l.val % 64, by omega⟩) := by
    pointwise [val_main_v156, val_main_v157, val_main_v158, val_main_v159, val_main_v160, bat, pos]
  rw [e, partly]
  pointwise [val_main_v54, val_main_v135, val_main_v136, val_main_v137, val_main_v138, val_main_v139, val_main_v140, val_main_v141, val_main_v142, val_main_v143, val_main_v144, val_main_v145, val_main_v146]
  simp only [v49_col, v34_apply, v35_apply, rotated]
  split_ifs <;> repeat' first
    | omega
    | with_reducible rfl
    | congr 1
theorem ref4 (n : Fin 16384) (l : Fin 128) : val_main_v163 (F := Ideal) x g w (ix2 n l) = weight x g w n l.val := by
  have e : val_main_v163 (F := Ideal) x g w (ix2 n l) = val_main_v162 (F := Ideal) x g w (ix3 (bat n) (pos n) l) := by
    pointwise [val_main_v163, bat, pos]
  rw [e, weight]
  pointwise [val_main_v55, val_main_v147, val_main_v148, val_main_v161, val_main_v162, val_main_cst_14, val_main_cst_15]
  simp only [v49_col, dite_eq_ite]
theorem ref5 (n : Fin 16384) (l : Fin 512) : val_main_v164 (F := Ideal) x g w (ix2 n l) = proj x g w n (1256 + l.val) := by
  rw [← v49_col x g w n (1256 + l.val) (by omega)]
  pointwise [val_main_v56, val_main_v164, bat, pos]
theorem ref6 (n : Fin 16384) (l : Fin 512) : val_main_v165 (F := Ideal) x g w (ix2 n l) = proj x g w n (1768 + l.val) := by
  rw [← v49_col x g w n (1768 + l.val) (by omega)]
  pointwise [val_main_v57, val_main_v165, bat, pos]

end Cert.Reference4Ideal.RefValue
-- ==== Proof.InClaims.lean ====
/-
  The input projection: the frames, and the kernel's seven results equal to the reference's where the norm's weight and the
  projection's weight are finite.
-/
module

public import proofs.«01_k».proof.Defs
public import proofs.«01_k».proof.Proof.InProj
public import proofs.«01_k».proof.Proof.InRef
public import proofs.«01_k».proof.Proof.Gen.Kernel4.Frame
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.InClaims

open Cert.Proof.InSpec

/-- The input projection's program runs to the end and keeps its arguments, at bits and at the ideal instance, and so does
    its reference. -/
theorem frame_p : Cert.quiescent_Kernel4 := fun m ρ _ => Cert.Kernel4.Gen.frame m ρ
theorem frame_pi : Cert.quiescent_Kernel4Ideal := fun m ρ _ => Cert.Kernel4Ideal.Gen.frame m ρ
theorem frame_pi_pre [Cert.Pre_finite_weights.Facts] : Cert.quiescent_Kernel4Ideal_pre_finite_weights :=
  fun m ρ _ => Cert.Kernel4Ideal.Gen.frame m ρ
theorem frame_ri : Cert.quiescent_Reference4Ideal := fun m ρ _ =>
  (θ_run Cert.Reference4Ideal.defs _ _).mono
    (fun r h => ⟨fun c => (h c).2.2.2.2.2.2.2, Idealize.ShloMosaic.sem_eq_zero_of_no_sems (by decide) r.2⟩)
    (Cert.Reference4Ideal.Value.run (F := Ideal) m ρ)
theorem frame_ri_pre [Cert.Pre_finite_weights.Facts] : Cert.quiescent_Reference4Ideal_pre_finite_weights := fun m ρ _ => frame_ri m ρ trivial

/-- At the ideal instance, on finite weights, the kernel's seven results and the reference's are the same functions of arguments
    that agree. -/
theorem algebraic [Cert.Pre_finite_weights.Facts] : Cert.algebraic_Kernel4Ideal_Reference4Ideal_pre_finite_weights := by
  intro m ρ m' ρ' hpre hagree
  refine ⟨fun c => Cert.Kernel4Ideal.RefValue.val0 m c, fun c => Cert.Kernel4Ideal.RefValue.val1 m c,
    fun c => Cert.Kernel4Ideal.RefValue.val2 m c, fun c => Cert.Kernel4Ideal.RefValue.val3 m c,
    fun c => Cert.Kernel4Ideal.RefValue.val4 m c, fun c => Cert.Kernel4Ideal.RefValue.val5 m c,
    fun c => Cert.Kernel4Ideal.RefValue.val6 m c,
    Cert.Kernel4Ideal.RefValue.run m ρ (Cert.Kernel4Ideal.RefValue.finite_of_pre m hpre), ?_⟩
  refine (θ_run Cert.Reference4Ideal.defs _ _).mono (fun _ h c => ⟨(h c).1.trans ?_, (h c).2.1.trans ?_,
    (h c).2.2.1.trans ?_, (h c).2.2.2.1.trans ?_, (h c).2.2.2.2.1.trans ?_, (h c).2.2.2.2.2.1.trans ?_,
    (h c).2.2.2.2.2.2.1.trans ?_, (h c).2.2.2.2.2.2.2⟩) (Cert.Reference4Ideal.Value.run (F := Ideal) m' ρ')
  all_goals obtain ⟨h0, h1, h2, h3, h4, h5⟩ := hagree c
  all_goals
    have e0 : StableHlo.launchContents m' c (Proc.devRef .tc Cert.Reference4Ideal.main_arg0) = Cert.Kernel4Ideal.RefValue.xIn m c := h0
    have e1 : StableHlo.launchContents m' c (Proc.devRef .tc Cert.Reference4Ideal.main_arg1) = Cert.Kernel4Ideal.RefValue.tIn m c := h1
    have e2 : StableHlo.launchContents m' c (Proc.devRef .tc Cert.Reference4Ideal.main_arg2) = Cert.Kernel4Ideal.RefValue.gIn m c := h2
    have e3 : StableHlo.launchContents m' c (Proc.devRef .tc Cert.Reference4Ideal.main_arg3) = Cert.Kernel4Ideal.RefValue.wIn m c := h3
    have e4 : StableHlo.launchContents m' c (Proc.devRef .tc Cert.Reference4Ideal.main_arg4) = Cert.Kernel4Ideal.RefValue.uIn m c := h4
    have e5 : StableHlo.launchContents m' c (Proc.devRef .tc Cert.Reference4Ideal.main_arg5) = Cert.Kernel4Ideal.RefValue.gkIn m c := h5
  · refine (Cert.Reference4Ideal.Read.val_main_v151_eq (StableHlo.launchContents m' c)).trans ?_
    rw [e0, e1, e2, e3, e4]
    funext j
    idx_vars j
    exact Cert.Reference4Ideal.RefValue.ref0 _ _ _ _ _ j0 j1 j2
  · refine (Cert.Reference4Ideal.Read.val_main_v153_eq (StableHlo.launchContents m' c)).trans ?_
    rw [e0, e1, e2, e3, e5]
    funext j
    idx_vars j
    exact Cert.Reference4Ideal.RefValue.ref1 _ _ _ _ _ j0 j1
  · refine (Cert.Reference4Ideal.Read.val_main_v155_eq (StableHlo.launchContents m' c)).trans ?_
    rw [e0, e1, e2, e3]
    funext j
    idx_vars j
    exact Cert.Reference4Ideal.RefValue.ref2 _ _ _ _ j0 j1
  · refine (Cert.Reference4Ideal.Read.val_main_v160_eq (StableHlo.launchContents m' c)).trans ?_
    rw [e0, e1, e2, e3]
    funext j
    idx_vars j
    exact Cert.Reference4Ideal.RefValue.ref3 _ _ _ _ j0 j1
  · refine (Cert.Reference4Ideal.Read.val_main_v163_eq (StableHlo.launchContents m' c)).trans ?_
    rw [e0, e2, e3]
    funext j
    idx_vars j
    exact Cert.Reference4Ideal.RefValue.ref4 _ _ _ j0 j1
  · refine (Cert.Reference4Ideal.Read.val_main_v164_eq (StableHlo.launchContents m' c)).trans ?_
    rw [e0, e2, e3]
    funext j
    idx_vars j
    exact Cert.Reference4Ideal.RefValue.ref5 _ _ _ j0 j1
  · refine (Cert.Reference4Ideal.Read.val_main_v165_eq (StableHlo.launchContents m' c)).trans ?_
    rw [e0, e2, e3]
    funext j
    idx_vars j
    exact Cert.Reference4Ideal.RefValue.ref6 _ _ _ j0 j1

end Cert.Proof.InClaims
-- ==== Proof.lean ====
/-
  The proof of the certificate (Defs.lean) about four calls of one layer.

  The sparse attention call (`Kernel`): it runs to the end from any memory whose counters are zero, keeps its arguments and
  leaves the counters at zero. Proof/DsaBody.lean walks the body once, through its counted loops and both sides of every
  conditional that its `lax.switch` prints as; Proof/DsaFrame.lean places it in the launch.

  The last call (`Kernel2`): the frame at bits and at the ideal instance, and its result equal to the reference's there
  (Proof/Final.lean).

  The output projection (`Kernel3`): the same frames, and its four results equal to the reference's (Proof/OutProj.lean).

  The input projection (`Kernel4`): the same frames, and its seven results equal to the reference's on finite weights
  (Proof/InProj.lean for the kernel, Proof/InRef.lean for the reference, Proof/InClaims.lean for the claims).
-/
module

public import proofs.«01_k».proof.Defs
public import proofs.«01_k».proof.Proof.DsaFrame
public import proofs.«01_k».proof.Proof.Final
public import proofs.«01_k».proof.Proof.OutProj
public import proofs.«01_k».proof.Proof.InClaims
public import proofs.«01_k».proof.Proof.Gen.Kernel.Frame
public import proofs.«01_k».proof.Proof.Gen.KernelIdeal
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference2Ideal.Run
public import proofs.«01_k».proof.Proof.Gen.Reference2Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite_weights
public import Idealize.ShloMosaic.Adequacy
public import Idealize.ShloMosaic.Init

@[expose] public section

noncomputable section

namespace Cert.Proof

open Idealize.ShloMosaic Idealize.ShloMosaic.TcCoe Idealize.SL.Sem

/-- `Cert.Claim` (Defs.lean): the programs' stated facts, the frames, and the value claims of the last call, of the
    output projection and of the input projection. -/
theorem claim : Cert.Claim :=
  haveI : Cert.Pre_finite_weights.Facts := Cert.Pre_finite_weights.Gen.facts
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_weights.Gen.facts,
    frame_attention, frame_attention_ideal, FinalClaims.frame_p, FinalClaims.frame_pi, FinalClaims.frame_ri,
    OutClaims.frame_p, OutClaims.frame_pi, OutClaims.frame_ri, InClaims.frame_p, InClaims.frame_pi, InClaims.frame_pi_pre,
    InClaims.frame_ri, InClaims.frame_ri_pre, trivial, trivial, FinalClaims.algebraic, trivial, OutClaims.algebraic, trivial,
    InClaims.algebraic⟩

end Cert.Proof

end
